-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v58) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S128x100000 : Shape := ⟨2, ![128, 100000]⟩
abbrev S128x1 : Shape := ⟨2, ![128, 1]⟩
abbrev S_ : Shape := ⟨0, ![]⟩
abbrev S128x99999 : Shape := ⟨2, ![128, 99999]⟩

class Facts : Prop where
  slices_S128x100000_S128x1_0_0 : S128x100000.Slices ![0, 0] S128x1
  bcast_S128x1_S128x100000_0_1 : S128x1.BroadcastsInDim S128x100000 (![0, 1] : Fin 2 → Fin S128x100000.rank)
  bcast_S_S_ : S_.BroadcastsInDim S_ (![] : Fin 0 → Fin S_.rank)
  reduceWindows_S128x100000_S128x100000_w1s1p0_0_w100000s1p99999_0 : S128x100000.ReduceWindows (![1, 100000] : Fin 2 → Nat) ![1, 1] ![0, 99999] ![0, 0] S128x100000
  h_S_ : 0 < S_.numel
  bcast_S_S128x1 : S_.BroadcastsInDim S128x1 (![] : Fin 0 → Fin S128x1.rank)
  slices_S128x100000_S128x99999_0_0 : S128x100000.Slices ![0, 0] S128x99999
  concatenates_S128x1_S128x99999_S128x100000_d1 : Shape.Concatenates [S128x1, S128x99999] S128x100000 1
  slices_S128x100000_S128x1_0_99999 : S128x100000.Slices ![0, 99999] S128x1
  slices_S128x100000_S128x1_0_63 : S128x100000.Slices ![0, 63] S128x1
  slices_S128x100000_S128x99999_0_1 : S128x100000.Slices ![0, 1] S128x99999
  bcast_S_S128x99999 : S_.BroadcastsInDim S128x99999 (![] : Fin 0 → Fin S128x99999.rank)
  bcast_S128x1_S128x99999_0_1 : S128x1.BroadcastsInDim S128x99999 (![0, 1] : Fin 2 → Fin S128x99999.rank)

variable [Facts]

variable {F : FTy → Type} [FloatOps F]
def comparator_f32_d1 : F .f32 → F .f32 → BitVec 1 :=
  fun l r =>
    let cst := FloatOps.ofBits .f32 0x00000000#32
    let v1 := FloatOps.cmpf .oeq l cst
    let cst_0 := FloatOps.ofBits .f32 0x00000000#32
    let v2 := Scalar.select v1 cst_0 l
    let v3 := FloatOps.cmpf .une l l
    let cst_1 := FloatOps.ofBits .f32 0x7FC00000#32
    let v4 := Scalar.select v3 cst_1 v2
    let cst_2 := FloatOps.ofBits .f32 0x00000000#32
    let v5 := FloatOps.cmpf .oeq r cst_2
    let cst_3 := FloatOps.ofBits .f32 0x00000000#32
    let v6 := Scalar.select v5 cst_3 r
    let v7 := FloatOps.cmpf .une r r
    let cst_4 := FloatOps.ofBits .f32 0x7FC00000#32
    let v8 := Scalar.select v7 cst_4 v6
    let v9 := FloatOps.cmpfTotal .lt v4 v8
    v9

def fn_sort {F : FTy → Type} [FloatOps F] (arg0 : FVec F S128x100000 .f32) : FVec F S128x100000 .f32 :=
  let v0 : FVec F S128x100000 .f32 := (fun x => Host.sort S128x100000 1 comparator_f32_d1 x) arg0
  v0

def fn_cumsum_0 {F : FTy → Type} [FloatOps F] (arg0 : FVec F S128x100000 .f32) : FVec F S128x100000 .f32 :=
  let cst : FVec F S_ .f32 := constant S_ .f32 0x00000000#32
  let v0 : FVec F S_ .f32 := broadcastInDim S_ ![] bcast_S_S_ cst
  let v1 : FVec F S128x100000 .f32 := (fun x v => Host.reduceWindowAdd ![1, 100000] ![1, 1] ![0, 99999] ![0, 0] x v reduceWindows_S128x100000_S128x100000_w1s1p0_0_w100000s1p99999_0 h_S_) arg0 v0
  v1

def fn_cumsum {F : FTy → Type} [FloatOps F] (arg0 : FVec F S128x100000 .f32) : FVec F S128x100000 .f32 :=
  let v0 : FVec F S128x100000 .f32 := fn_cumsum_0 (F := F) arg0
  v0

def fn_part1 {F : FTy → Type} [FloatOps F] (main_v2 : FVec F S128x100000 .f32) (main_v20 : IVec S128x100000 1) (main_v21 : FVec F S128x99999 .f32) : IVec S128x99999 1 :=
  let main_v22 : FVec F S128x99999 .f32 := (extractStridedSlice S128x99999 ![0, 1] · slices_S128x100000_S128x99999_0_1) main_v2
  let main_v23 : FVec F S128x99999 .f32 := subf main_v21 main_v22
  let main_cst_1 : FVec F S_ .f32 := constant S_ .f32 0x34000000#32
  let main_v24 : FVec F S128x99999 .f32 := broadcastInDim S128x99999 ![] bcast_S_S128x99999 main_cst_1
  let main_v25 : IVec S128x99999 1 := cmpf .oge main_v23 main_v24
  let main_v26 : FVec F S128x1 .f32 := (extractStridedSlice S128x1 ![0, 0] · slices_S128x100000_S128x1_0_0) main_v2
  let main_cst_2 : FVec F S_ .f32 := constant S_ .f32 0xFF800000#32
  let main_v27 : FVec F S128x1 .f32 := broadcastInDim S128x1 ![] bcast_S_S128x1 main_cst_2
  let main_v28 : IVec S128x1 1 := cmpf .ogt main_v26 main_v27
  let main_v29 : FVec F S128x1 .f32 := (extractStridedSlice S128x1 ![0, 0] · slices_S128x100000_S128x1_0_0) main_v2
  let main_cst_3 : FVec F S_ .f32 := constant S_ .f32 0x7F800000#32
  let main_v30 : FVec F S128x1 .f32 := broadcastInDim S128x1 ![] bcast_S_S128x1 main_cst_3
  let main_v31 : IVec S128x1 1 := cmpf .olt main_v29 main_v30
  let main_v32 : IVec S128x1 1 := andi main_v28 main_v31
  let main_v33 : IVec S128x99999 1 := (extractStridedSlice S128x99999 ![0, 0] · slices_S128x100000_S128x99999_0_0) main_v20
  let main_v34 : IVec S128x99999 1 := (extractStridedSlice S128x99999 ![0, 1] · slices_S128x100000_S128x99999_0_1) main_v20
  let main_v35 : IVec S128x99999 1 := cmpi .eq main_v33 main_v34
  let main_v36 : IVec S128x99999 1 := ori main_v25 main_v35
  let main_v37 : IVec S128x99999 1 := broadcastInDim S128x99999 ![0, 1] bcast_S128x1_S128x99999_0_1 main_v32
  let main_v38 : IVec S128x99999 1 := andi main_v37 main_v36
  main_v38

def fn {F : FTy → Type} [FloatOps F] (main_arg0 : FVec F S128x100000 .f32) : IVec S128x99999 1 :=
  let main_v0 : FVec F S128x100000 .f32 := Host.negf main_arg0
  let main_v1 : FVec F S128x100000 .f32 := fn_sort (F := F) main_v0
  let main_v2 : FVec F S128x100000 .f32 := Host.negf main_v1
  let main_v3 : FVec F S128x1 .f32 := (extractStridedSlice S128x1 ![0, 0] · slices_S128x100000_S128x1_0_0) main_v2
  let main_v4 : FVec F S128x100000 .f32 := broadcastInDim S128x100000 ![0, 1] bcast_S128x1_S128x100000_0_1 main_v3
  let main_v5 : FVec F S128x100000 .f32 := subf main_v2 main_v4
  let main_v6 : FVec F S128x100000 .f32 := Host.exp main_v5
  let main_v7 : FVec F S128x100000 .f32 := fn_cumsum (F := F) main_v6
  let main_v8 : FVec F S128x1 .f32 := (extractStridedSlice S128x1 ![0, 0] · slices_S128x100000_S128x1_0_0) main_v7
  let main_cst : FVec F S_ .f32 := constant S_ .f32 0x00000000#32
  let main_v9 : FVec F S128x1 .f32 := broadcastInDim S128x1 ![] bcast_S_S128x1 main_cst
  let main_v10 : FVec F S128x99999 .f32 := (extractStridedSlice S128x99999 ![0, 0] · slices_S128x100000_S128x99999_0_0) main_v7
  let main_v11 : FVec F S128x100000 .f32 := (fun a b => concatenate S128x100000 1 [⟨S128x1, a⟩, ⟨S128x99999, b⟩] concatenates_S128x1_S128x99999_S128x100000_d1) main_v9 main_v10
  let main_v12 : FVec F S128x1 .f32 := (extractStridedSlice S128x1 ![0, 99999] · slices_S128x100000_S128x1_0_99999) main_v7
  let main_cst_0 : FVec F S_ .f32 := constant S_ .f32 0x3F733333#32
  let main_v13 : FVec F S128x1 .f32 := broadcastInDim S128x1 ![] bcast_S_S128x1 main_cst_0
  let main_v14 : FVec F S128x1 .f32 := mulf main_v13 main_v12
  let main_v15 : FVec F S128x100000 .f32 := broadcastInDim S128x100000 ![0, 1] bcast_S128x1_S128x100000_0_1 main_v14
  let main_v16 : IVec S128x100000 1 := cmpf .ole main_v11 main_v15
  let main_v17 : FVec F S128x1 .f32 := (extractStridedSlice S128x1 ![0, 63] · slices_S128x100000_S128x1_0_63) main_v2
  let main_v18 : FVec F S128x100000 .f32 := broadcastInDim S128x100000 ![0, 1] bcast_S128x1_S128x100000_0_1 main_v17
  let main_v19 : IVec S128x100000 1 := cmpf .oge main_v2 main_v18
  let main_v20 : IVec S128x100000 1 := andi main_v16 main_v19
  let main_v21 : FVec F S128x99999 .f32 := (extractStridedSlice S128x99999 ![0, 0] · slices_S128x100000_S128x99999_0_0) main_v2
  fn_part1 (F := F) main_v2 main_v20 main_v21
-- ==== Kernel.lean ====
abbrev S128x100000 : Shape := ⟨2, ![128, 100000]⟩
abbrev S128x1 : Shape := ⟨2, ![128, 1]⟩
abbrev S8x100000 : Shape := ⟨2, ![8, 100000]⟩
abbrev S8x1 : Shape := ⟨2, ![8, 1]⟩
abbrev S8 : Shape := ⟨1, ![8]⟩

abbrev nBuf : Space → Nat
  | .hbm => 3
  | .vmem => 6
  | .smem => 0
  | _ => 0

abbrev bufTy : (tb : Table) → Fin (tcTables nBuf tb) → BufTy
  | .hbm, ⟨0, _⟩ => ⟨S128x100000, .f32⟩
  | .hbm, ⟨1, _⟩ => ⟨S128x1, .f32⟩
  | .hbm, ⟨2, _⟩ => ⟨S128x1, .i32⟩
  | .local _ .vmem, ⟨0, _⟩ => ⟨S8x100000, .f32⟩
  | .local _ .vmem, ⟨1, _⟩ => ⟨S8x100000, .f32⟩
  | .local _ .vmem, ⟨2, _⟩ => ⟨S8x1, .f32⟩
  | .local _ .vmem, ⟨3, _⟩ => ⟨S8x1, .f32⟩
  | .local _ .vmem, ⟨4, _⟩ => ⟨S8x1, .i32⟩
  | .local _ .vmem, ⟨5, _⟩ => ⟨S8x1, .i32⟩
  | _, _ => ⟨S128x100000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32_4 : BitVec 32 := 0#32
  let c31_i32 : BitVec 32 := 31#32
  let v19 : BitVec 32 := Scalar.addi c0_i32_4 c31_i32
  let c1_i32 : BitVec 32 := 1#32
  ⟨c0_i32_4, v19, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x100000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== ReferenceIdeal.lean ====
abbrev S128x100000 : Shape := ⟨2, ![128, 100000]⟩
abbrev S_ : Shape := ⟨0, ![]⟩
abbrev S128x100000x1 : Shape := ⟨3, ![128, 100000, 1]⟩
abbrev S1 : Shape := ⟨1, ![1]⟩
abbrev S1x1x1 : Shape := ⟨3, ![1, 1, 1]⟩
abbrev S128 : Shape := ⟨1, ![128]⟩
abbrev S128x1 : Shape := ⟨2, ![128, 1]⟩
abbrev S128x99999 : Shape := ⟨2, ![128, 99999]⟩
abbrev S128x100000x2 : Shape := ⟨3, ![128, 100000, 2]⟩
abbrev S128x64 : Shape := ⟨2, ![128, 64]⟩

abbrev nBuf : Space → Nat
  | .hbm => 109
  | .vmem => 0
  | .smem => 0
  | _ => 0

abbrev bufTy : (tb : Table) → Fin (tcTables nBuf tb) → BufTy
  | .hbm, ⟨0, _⟩ => ⟨S128x100000, .f32⟩
  | .hbm, ⟨1, _⟩ => ⟨S128x100000, .f32⟩
  | .hbm, ⟨2, _⟩ => ⟨S128x100000, .i32⟩
  | .hbm, ⟨3, _⟩ => ⟨S128x100000, .f32⟩
  | .hbm, ⟨4, _⟩ => ⟨S128x100000, .i32⟩
  | .hbm, ⟨5, _⟩ => ⟨S_, .i32⟩
  | .hbm, ⟨6, _⟩ => ⟨S128x100000, .i32⟩
  | .hbm, ⟨7, _⟩ => ⟨S128x100000, .i1⟩
  | .hbm, ⟨8, _⟩ => ⟨S_, .i32⟩
  | .hbm, ⟨9, _⟩ => ⟨S128x100000, .i32⟩
  | .hbm, ⟨10, _⟩ => ⟨S128x100000, .i32⟩
  | .hbm, ⟨11, _⟩ => ⟨S128x100000, .i32⟩
  | .hbm, ⟨12, _⟩ => ⟨S128x100000x1, .i32⟩
  | .hbm, ⟨13, _⟩ => ⟨S1, .i32⟩
  | .hbm, ⟨14, _⟩ => ⟨S_, .i32⟩
  | .hbm, ⟨15, _⟩ => ⟨S128x100000x1, .i32⟩
  | .hbm, ⟨16, _⟩ => ⟨S128x100000x1, .i1⟩
  | .hbm, ⟨17, _⟩ => ⟨S1x1x1, .i32⟩
  | .hbm, ⟨18, _⟩ => ⟨S128x100000x1, .i32⟩
  | .hbm, ⟨19, _⟩ => ⟨S128x100000x1, .i1⟩
  | .hbm, ⟨20, _⟩ => ⟨S128x100000x1, .i1⟩
  | .hbm, ⟨21, _⟩ => ⟨S_, .i1⟩
  | .hbm, ⟨22, _⟩ => ⟨S128x100000, .i1⟩
  | .hbm, ⟨23, _⟩ => ⟨S128x100000, .f32⟩
  | .hbm, ⟨24, _⟩ => ⟨S_, .f32⟩
  | .hbm, ⟨25, _⟩ => ⟨S128x100000, .f32⟩
  | .hbm, ⟨26, _⟩ => ⟨S128x100000, .f32⟩
  | .hbm, ⟨27, _⟩ => ⟨S_, .f32⟩
  | .hbm, ⟨28, _⟩ => ⟨S128, .f32⟩
  | .hbm, ⟨29, _⟩ => ⟨S_, .f32⟩
  | .hbm, ⟨30, _⟩ => ⟨S128, .f32⟩
  | .hbm, ⟨31, _⟩ => ⟨S128, .f32⟩
  | .hbm, ⟨32, _⟩ => ⟨S128x1, .f32⟩
  | .hbm, ⟨33, _⟩ => ⟨S128x100000, .f32⟩
  | .hbm, ⟨34, _⟩ => ⟨S128x100000, .f32⟩
  | .hbm, ⟨35, _⟩ => ⟨S128x100000, .f32⟩
  | .hbm, ⟨36, _⟩ => ⟨S_, .f32⟩
  | .hbm, ⟨37, _⟩ => ⟨S128, .f32⟩
  | .hbm, ⟨38, _⟩ => ⟨S128x1, .f32⟩
  | .hbm, ⟨39, _⟩ => ⟨S128x100000, .f32⟩
  | .hbm, ⟨40, _⟩ => ⟨S128x100000, .f32⟩
  | .hbm, ⟨41, _⟩ => ⟨S_, .f32⟩
  | .hbm, ⟨42, _⟩ => ⟨S_, .f32⟩
  | .hbm, ⟨43, _⟩ => ⟨S128x100000, .f32⟩
  | .hbm, ⟨44, _⟩ => ⟨S_, .f32⟩
  | .hbm, ⟨45, _⟩ => ⟨S128x100000, .f32⟩
  | .hbm, ⟨46, _⟩ => ⟨S128x100000, .i1⟩
  | .hbm, ⟨47, _⟩ => ⟨S128x1, .i1⟩
  | .hbm, ⟨48, _⟩ => ⟨S_, .i1⟩
  | .hbm, ⟨49, _⟩ => ⟨S128x1, .i1⟩
  | .hbm, ⟨50, _⟩ => ⟨S128x99999, .i1⟩
  | .hbm, ⟨51, _⟩ => ⟨S128x100000, .i1⟩
  | .hbm, ⟨52, _⟩ => ⟨S128, .i32⟩
  | .hbm, ⟨53, _⟩ => ⟨S128x1, .i32⟩
  | .hbm, ⟨54, _⟩ => ⟨S_, .i1⟩
  | .hbm, ⟨55, _⟩ => ⟨S128x100000, .i1⟩
  | .hbm, ⟨56, _⟩ => ⟨S_, .i32⟩
  | .hbm, ⟨57, _⟩ => ⟨S128x1, .i32⟩
  | .hbm, ⟨58, _⟩ => ⟨S128x1, .i1⟩
  | .hbm, ⟨59, _⟩ => ⟨S_, .i32⟩
  | .hbm, ⟨60, _⟩ => ⟨S128x1, .i32⟩
  | .hbm, ⟨61, _⟩ => ⟨S128x1, .i32⟩
  | .hbm, ⟨62, _⟩ => ⟨S128x1, .i32⟩
  | .hbm, ⟨63, _⟩ => ⟨S_, .i32⟩
  | .hbm, ⟨64, _⟩ => ⟨S128x100000, .i32⟩
  | .hbm, ⟨65, _⟩ => ⟨S128x100000, .i1⟩
  | .hbm, ⟨66, _⟩ => ⟨S_, .i32⟩
  | .hbm, ⟨67, _⟩ => ⟨S128x100000, .i32⟩
  | .hbm, ⟨68, _⟩ => ⟨S128x100000, .i32⟩
  | .hbm, ⟨69, _⟩ => ⟨S128x100000, .i32⟩
  | .hbm, ⟨70, _⟩ => ⟨S128x100000, .i32⟩
  | .hbm, ⟨71, _⟩ => ⟨S128x100000x1, .i32⟩
  | .hbm, ⟨72, _⟩ => ⟨S128x100000x1, .i32⟩
  | .hbm, ⟨73, _⟩ => ⟨S128x100000x2, .i32⟩
  | .hbm, ⟨74, _⟩ => ⟨S128x100000, .i1⟩
  | .hbm, ⟨75, _⟩ => ⟨S_, .f32⟩
  | .hbm, ⟨76, _⟩ => ⟨S128x100000, .f32⟩
  | .hbm, ⟨77, _⟩ => ⟨S128x100000, .f32⟩
  | .hbm, ⟨78, _⟩ => ⟨S128x64, .f32⟩
  | .hbm, ⟨79, _⟩ => ⟨S128x64, .i32⟩
  | .hbm, ⟨80, _⟩ => ⟨S128x1, .f32⟩
  | .hbm, ⟨81, _⟩ => ⟨S128x100000, .f32⟩
  | .hbm, ⟨82, _⟩ => ⟨S128x100000, .i1⟩
  | .hbm, ⟨83, _⟩ => ⟨S_, .f32⟩
  | .hbm, ⟨84, _⟩ => ⟨S128x100000, .f32⟩
  | .hbm, ⟨85, _⟩ => ⟨S128x100000, .f32⟩
  | .hbm, ⟨86, _⟩ => ⟨S_, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128x1, .f32⟩
  | .hbm, ⟨92, _⟩ => ⟨S128x100000, .f32⟩
  | .hbm, ⟨93, _⟩ => ⟨S128x100000, .f32⟩
  | .hbm, ⟨94, _⟩ => ⟨S128x100000, .f32⟩
  | .hbm, ⟨95, _⟩ => ⟨S_, .f32⟩
  | .hbm, ⟨96, _⟩ => ⟨S128, .f32⟩
  | .hbm, ⟨97, _⟩ => ⟨S128x1, .f32⟩
  | .hbm, ⟨98, _⟩ => ⟨S128x100000, .f32⟩
  | .hbm, ⟨99, _⟩ => ⟨S128x100000, .f32⟩
  | .hbm, ⟨100, _⟩ => ⟨S_, .f32⟩
  | .hbm, ⟨101, _⟩ => ⟨S128, .f32⟩
  | .hbm, ⟨102, _⟩ => ⟨S128x100000, .i32⟩
  | .hbm, ⟨103, _⟩ => ⟨S_, .f32⟩
  | .hbm, ⟨104, _⟩ => ⟨S_, .i32⟩
  | .hbm, ⟨105, _⟩ => ⟨S128, .f32⟩
  | .hbm, ⟨106, _⟩ => ⟨S128, .i32⟩
  | .hbm, ⟨107, _⟩ => ⟨S128x1, .f32⟩
  | .hbm, ⟨108, _⟩ => ⟨S128x1, .i32⟩
  | _, _ => ⟨S128x100000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_call1_c : Ref sig .tc := ⟨.hbm, 5, rfl⟩
abbrev main_call1_v0 : Ref sig .tc := ⟨.hbm, 6, rfl⟩
abbrev main_call1_v1 : Ref sig .tc := ⟨.hbm, 7, rfl⟩
abbrev main_call1_c_0 : Ref sig .tc := ⟨.hbm, 8, rfl⟩
abbrev main_call1_v2 : Ref sig .tc := ⟨.hbm, 9, rfl⟩
abbrev main_call1_v3 : Ref sig .tc := ⟨.hbm, 10, rfl⟩
abbrev main_call1_v4 : Ref sig .tc := ⟨.hbm, 11, rfl⟩
abbrev main_call1_v5 : Ref sig .tc := ⟨.hbm, 12, rfl⟩
abbrev main_call1_c_1 : Ref sig .tc := ⟨.hbm, 13, rfl⟩
abbrev main_call1_c_2 : Ref sig .tc := ⟨.hbm, 14, rfl⟩
abbrev main_call1_v6 : Ref sig .tc := ⟨.hbm, 15, rfl⟩
abbrev main_call1_v7 : Ref sig .tc := ⟨.hbm, 16, rfl⟩
abbrev main_call1_v8 : Ref sig .tc := ⟨.hbm, 17, rfl⟩
abbrev main_call1_v9 : Ref sig .tc := ⟨.hbm, 18, rfl⟩
abbrev main_call1_v10 : Ref sig .tc := ⟨.hbm, 19, rfl⟩
abbrev main_call1_v11 : Ref sig .tc := ⟨.hbm, 20, rfl⟩
abbrev main_call1_c_3 : Ref sig .tc := ⟨.hbm, 21, rfl⟩
abbrev main_call1_v12 : Ref sig .tc := ⟨.hbm, 22, rfl⟩
abbrev main_call1_v13 : Ref sig .tc := ⟨.hbm, 23, rfl⟩
abbrev main_call1_cst : Ref sig .tc := ⟨.hbm, 24, rfl⟩
abbrev main_call1_v14 : Ref sig .tc := ⟨.hbm, 25, rfl⟩
abbrev main_v2 : Ref sig .tc := ⟨.hbm, 26, rfl⟩
abbrev main_cst : Ref sig .tc := ⟨.hbm, 27, rfl⟩
abbrev main_v3 : Ref sig .tc := ⟨.hbm, 28, rfl⟩
abbrev main_cst_0 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_cst_1 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_call2_call0_cst : Ref sig .tc := ⟨.hbm, 41, rfl⟩
abbrev main_call2_call0_v0 : Ref sig .tc := ⟨.hbm, 42, rfl⟩
abbrev main_v14 : Ref sig .tc := ⟨.hbm, 43, rfl⟩
abbrev main_cst_2 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_c : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_c_3 : Ref sig .tc := ⟨.hbm, 54, rfl⟩
abbrev main_v23 : Ref sig .tc := ⟨.hbm, 55, rfl⟩
abbrev main_c_4 : Ref sig .tc := ⟨.hbm, 56, rfl⟩
abbrev main_v24 : Ref sig .tc := ⟨.hbm, 57, rfl⟩
abbrev main_v25 : Ref sig .tc := ⟨.hbm, 58, rfl⟩
abbrev main_c_5 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_c_6 : Ref sig .tc := ⟨.hbm, 63, rfl⟩
abbrev main_v29 : Ref sig .tc := ⟨.hbm, 64, rfl⟩
abbrev main_v30 : Ref sig .tc := ⟨.hbm, 65, rfl⟩
abbrev main_c_7 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_cst_8 : Ref sig .tc := ⟨.hbm, 75, rfl⟩
abbrev main_call3_v0 : Ref sig .tc := ⟨.hbm, 76, rfl⟩
abbrev main_v39 : Ref sig .tc := ⟨.hbm, 77, rfl⟩
abbrev main_values : Ref sig .tc := ⟨.hbm, 78, rfl⟩
abbrev main_indices : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_cst_9 : Ref sig .tc := ⟨.hbm, 83, rfl⟩
abbrev main_call4_v0 : Ref sig .tc := ⟨.hbm, 84, rfl⟩
abbrev main_v43 : Ref sig .tc := ⟨.hbm, 85, rfl⟩
abbrev main_cst_10 : Ref sig .tc := ⟨.hbm, 86, rfl⟩
abbrev main_v44 : Ref sig .tc := ⟨.hbm, 87, rfl⟩
abbrev main_cst_11 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_cst_12 : Ref sig .tc := ⟨.hbm, 95, rfl⟩
abbrev main_v51 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_cst_13 : Ref sig .tc := ⟨.hbm, 100, rfl⟩
abbrev main_v55 : Ref sig .tc := ⟨.hbm, 101, rfl⟩
abbrev main_call5_v0 : Ref sig .tc := ⟨.hbm, 102, rfl⟩
abbrev main_call5_cst : Ref sig .tc := ⟨.hbm, 103, rfl⟩
abbrev main_call5_c : Ref sig .tc := ⟨.hbm, 104, rfl⟩
abbrev main_call5_v1_0 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩

abbrev nD : Nat := 1
abbrev τ : Topo := Topo.v7x

variable {F : FTy → Type} [FloatOps F]
-- ==== Proof.BlockRun.lean ====
/- What the body leaves in its two output blocks, as terms of the block of logits that it reads: the payloads of its two
   stores, the first at the lower end of the range that 31 halvings leave. -/
module

public import proofs.«01_k».proof.Proof.Gen.KernelIdeal.Frame
public import Idealize.ShloMosaic.Lib.Pipeline.Value

@[expose] public section

noncomputable section

namespace Cert.K

open Cert.KernelIdeal Cert.KernelIdeal.Gen Idealize.ShloMosaic Idealize.ShloMosaic.TcCoe

variable {F : FTy → Type} [FloatOps F]

/-- Both offsets are zero. -/
theorem hz2 : (![0, 0] : Fin 2 → Nat) = fun _ => 0 := funext fun a => by fin_cases a <;> rfl

/-- The ranges of the rows of a block, after `k` halvings. -/
def ranges (x : Vec F S8x100000 .f32) : ℕ → IVec S8x1 32 × IVec S8x1 32
  | 0 => (k0_pay4, k0_pay5)
  | k + 1 => (k0_pay8 x (ranges x k).1 (ranges x k).2, k0_pay9 x (ranges x k).1 (ranges x k).2)

/-- A fold whose step does not look at its index is an iteration. -/
theorem foldl_iterate {σ α : Type} (f : σ → σ) (l : List α) (s : σ) :
    l.foldl (fun acc _ => f acc) s = f^[l.length] s := by
  induction l generalizing s with
  | nil => rfl
  | cons a l ih => rw [List.foldl_cons, ih, List.length_cons, Function.iterate_succ_apply]

/-- The ranges after some halvings, as an iteration of one halving. -/
theorem ranges_iterate (x : Vec F S8x100000 .f32) (k : ℕ) :
    (fun s : IVec S8x1 32 × IVec S8x1 32 => (k0_pay8 x s.1 s.2, k0_pay9 x s.1 s.2))^[k] (k0_pay4, k0_pay5) = ranges x k := by
  induction k with
  | zero => rfl
  | succ k ih => rw [Function.iterate_succ_apply', ih]; rfl

/-- The loop's fold is the ranges after as many halvings as it has trips. -/
theorem fold_ranges (x : Vec F S8x100000 .f32) {n : ℕ} :
    Scf.fold (n := n) (fun _ (s : IVec S8x1 32 × IVec S8x1 32) => (k0_pay8 x s.1 s.2, k0_pay9 x s.1 s.2)) (k0_pay4, k0_pay5)
      = ranges x n := by
  rw [Scf.fold_eq, foldl_iterate (fun s : IVec S8x1 32 × IVec S8x1 32 => (k0_pay8 x s.1 s.2, k0_pay9 x s.1 s.2)), List.length_finRange,
    ranges_iterate]

/-- The loop runs 31 times. -/
theorem trips31 : k0_t1_loop.trips = 31 := by decide

/-- The first output block: the confidences at the thresholds that the halvings end at. -/
theorem out1 (c : Dev nD) (i : grid0.Coords) (a1 : Memref sig .tc .vmem S8x100000 .f32) (h1 : a1.IsWhole)
    (a2 : Memref sig .tc .vmem S8x1 .f32) (h2 : a2.IsWhole) (a3 : Memref sig .tc .vmem S8x1 .i32) (h3 : a3.IsWhole)
    (x : Vec F S8x100000 .f32) :
    out0_A_1 c i a1 h1 a2 h2 a3 h3 x = k0_pay10 x (ranges x 31).1 := by
  unfold out0_A_1
  rw [View.read_writes_eq_canon _ _ _ (cover0_A_1 c i a1 h1 a2 h2 a3 h3 x)]
  unfold kernelRun0_A
  dsimp only
  sl_unfold_words
  rw [View.canon_cons_unit_zero (S := S8x1) hz2]
  simp only [View.readAt_eq_ld, h1.read_unread, View.ld_unit_zero (S := S8x100000) hz2]
  rw [← trips31, ← fold_ranges]

/-- The second output block: the columns of the largest logits. -/
theorem out2 (c : Dev nD) (i : grid0.Coords) (a1 : Memref sig .tc .vmem S8x100000 .f32) (h1 : a1.IsWhole)
    (a2 : Memref sig .tc .vmem S8x1 .f32) (h2 : a2.IsWhole) (a3 : Memref sig .tc .vmem S8x1 .i32) (h3 : a3.IsWhole)
    (x : Vec F S8x100000 .f32) :
    out0_A_2 c i a1 h1 a2 h2 a3 h3 x = k0_pay2 x := by
  unfold out0_A_2
  rw [View.read_writes_eq_canon _ _ _ (cover0_A_2 c i a1 h1 a2 h2 a3 h3 x)]
  unfold kernelRun0_A
  dsimp only
  sl_unfold_words
  rw [View.canon_cons_unit_zero (S := S8x1) hz2]
  simp only [View.readAt_eq_ld, h1.read_unread, View.ld_unit_zero (S := S8x100000) hz2]

end Cert.K

end
-- ==== Proof.RowOps.lean ====
/- Reading the operations that the programs share at a row of a matrix, over the extended reals: a reduction along the
   row, a column spread over the row, a comparison. -/
module

public import Idealize.ShloMosaic.Lib.ValueIdx
public import Idealize.ShloMosaic.Lib.ValueLayoutCasts
public import Idealize.ShloMosaic.Lib.Pipeline.Value
public import Idealize.ShloMosaic.Lib.WordSum
public import Idealize.ShloMosaic.Lib.IdealHost
public import Idealize.ShloMosaic.PureOps.Ideal
public import Idealize.ShloMosaic.PureOps.Ideal.Laws

@[expose] public section

noncomputable section

namespace Cert.K

open Idealize.ShloMosaic Idealize.ShloMosaic.ValueIdx

variable {m n : ℕ}

/-- The largest entry of a row. -/
def top (f : Fin n → EReal) : EReal := Finset.univ.sup f

/-- A row's entries as weights relative to its largest. -/
def weight (f : Fin n → EReal) (k : Fin n) : EReal := Ideal.exp (f k - top f)

/-- The entry `k` of row `r`, as an index over the row's. -/
theorem lift_row (h : (⟨2, ![m, n]⟩ : Shape).Reduces [1] ⟨1, ![m]⟩) (r : Fin m) (k : Fin n) :
    h.lift (ix1 r) k = ix2 r k := by
  funext a
  match a with
  | ⟨0, _⟩ => exact Fin.ext rfl
  | ⟨1, _⟩ => exact Fin.ext rfl

/-- The word of minus infinity. -/
theorem ofBits_neg_inf : Ideal.ofBits .f32 0xFF800000#32 = ⊥ := by
  simp [Ideal.ofBits, Ideal.ieee]

/-- The word of plus infinity. -/
theorem ofBits_pos_inf : Ideal.ofBits .f32 0x7F800000#32 = ⊤ := by
  simp [Ideal.ofBits, Ideal.ieee]

/-- A kernel's row maximum. -/
theorem rowMax_apply (x : FVec Ideal ⟨2, ![m, n]⟩ .f32) (h : (⟨2, ![m, n]⟩ : Shape).Reduces [1] ⟨1, ![m]⟩)
    (hφ : FKind.Formats .f32) (hacc : (0xFF800000#32 : BitVec 32) = FKind.maximumf.neutral .f32 hφ) (r : Fin m) :
    multiReduction .maximumf [1] ⟨1, ![m]⟩ x 0xFF800000#32 h hφ hacc (ix1 r) = top fun k => x (ix2 r k) := by
  rw [Ideal.multiReduction_maximumf_single]
  have : (x ∘ h.lift (ix1 r) : Fin n → EReal) = fun k => x (ix2 r k) := funext fun k => congrArg x (lift_row h r k)
  refine (congrArg (fun f : Fin n → EReal => (Finset.univ : Finset (Fin n)).fold max (Ideal.ofBits .f32 0xFF800000#32) f) this).trans ?_
  rw [ofBits_neg_inf]
  rfl

/-- A kernel's row sum. -/
theorem rowSum_apply (x : FVec Ideal ⟨2, ![m, n]⟩ .f32) (acc : BitVec 32) (h : (⟨2, ![m, n]⟩ : Shape).Reduces [1] ⟨1, ![m]⟩)
    (hφ : FKind.Formats .f32) (hacc : acc = FKind.add.neutral .f32 hφ) (r : Fin m) :
    multiReduction .add [1] ⟨1, ![m]⟩ x acc h hφ hacc (ix1 r) = ∑ k : Fin n, x (ix2 r k) := by
  rw [Ideal.multiReduction_add_single]
  exact Finset.sum_congr rfl fun k _ => congrArg x (lift_row h r k)

/-- A kernel's integer reduction of a row. -/
theorem rowFoldI_apply (kind : IKind) (x : IVec ⟨2, ![m, n]⟩ 32) (acc : BitVec 32)
    (h : (⟨2, ![m, n]⟩ : Shape).Reduces [1] ⟨1, ![m]⟩) (hacc : acc = kind.neutral) (r : Fin m) :
    multiReductionI kind [1] ⟨1, ![m]⟩ x acc h hacc (ix1 r)
      = (Finset.univ : Finset (Fin n)).fold kind.op acc fun k => x (ix2 r k) := by
  rw [multiReductionI_eq_fold, h.fold_filter_drop_single]
  exact congrArg (fun f : Fin n → BitVec 32 => (Finset.univ : Finset (Fin n)).fold kind.op acc f) (funext fun k => congrArg x (lift_row h r k))

/-- A kernel's integer row sum, as a number, while it stays inside the word. -/
theorem rowSumI_toNat (x : IVec ⟨2, ![m, n]⟩ 32) (h : (⟨2, ![m, n]⟩ : Shape).Reduces [1] ⟨1, ![m]⟩)
    (hacc : (0#32 : BitVec 32) = IKind.add.neutral) (r : Fin m) (hS : ∑ k : Fin n, (x (ix2 r k)).toNat < 2 ^ 32) :
    (multiReductionI .add [1] ⟨1, ![m]⟩ x 0#32 h hacc (ix1 r)).toNat = ∑ k : Fin n, (x (ix2 r k)).toNat := by
  have e : ∑ i ∈ Finset.univ.filter (fun i => h.drop i = ix1 r), (x i).toNat = ∑ k : Fin n, (x (ix2 r k)).toNat := by
    rw [h.sum_filter_drop_single (fun i => (x i).toNat)]
    exact Finset.sum_congr rfl fun k _ => congrArg (fun i => (x i).toNat) (lift_row h r k)
  rw [WordSum.toNat_multiReductionI_add _ _ _ _ (by rw [e]; exact hS), e]

/-- A column spread over the rows reads the column. -/
theorem spread_apply {α : Type} (x : (⟨2, ![m, 1]⟩ : Shape).Idx → α) (h : (⟨2, ![m, 1]⟩ : Shape).Broadcasts ⟨2, ![m, n]⟩)
    (hm : m ≠ 1) (r : Fin m) (k : Fin n) : broadcastTo ⟨2, ![m, n]⟩ x h (ix2 r k) = x (ix2 r 0) := by
  refine broadcastTo_apply x h _ _ fun a => ?_
  match a with
  | ⟨0, _⟩ => exact (if_neg hm).symm
  | ⟨1, _⟩ => exact (if_pos rfl).symm

/-- The integer operations at an index. -/
theorem ori_at {s : Shape} (a b : IVec s 1) (i : s.Idx) : ori a b i = IntOp.ori (a i) (b i) := rfl
/-- A conjunction, read at a place. -/
theorem andi_at {s : Shape} (a b : IVec s 1) (i : s.Idx) : andi a b i = IntOp.andi (a i) (b i) := rfl
/-- An integer comparison, read at a place. -/
theorem cmpi_at {s : Shape} {w : ℕ} (p : CmpIPredicate) (a b : IVec s w) (i : s.Idx) :
    cmpi p a b i = IntOp.cmpi p (a i) (b i) := rfl

/-- A count of at most 100000 against 64, as signed words. -/
theorem sge64 (c : BitVec 32) (h : c.toNat ≤ 100000) : IntOp.cmpi .sge c 64#32 = 1#1 ↔ 64 ≤ c.toNat := by
  have h1 : (64#32).sle c = decide (64 ≤ c.toNat) := by
    rw [BitVec.sle_eq_decide, BitVec.toInt_eq_toNat_of_lt (by decide), BitVec.toInt_eq_toNat_of_lt (by omega)]
    simp
  unfold IntOp.cmpi
  dsimp only
  rw [h1]
  by_cases h : 64 ≤ c.toNat <;> simp [h]

/-- The bit of a greater-or-equal. -/
theorem cmp_oge (a b : EReal) : Ideal.cmp .oge a b = 1#1 ↔ b ≤ a := by
  unfold Ideal.cmp
  by_cases h : b ≤ a <;> simp [h]

/-- The bit of a greater-than. -/
theorem cmp_ogt (a b : EReal) : Ideal.cmp .ogt a b = 1#1 ↔ b < a := by
  unfold Ideal.cmp
  by_cases h : b < a <;> simp [h]

/-- The bit of a less-or-equal. -/
theorem cmp_ole (a b : EReal) : Ideal.cmp .ole a b = 1#1 ↔ a ≤ b := by
  unfold Ideal.cmp
  by_cases h : a ≤ b <;> simp [h]

/-- The bit of a less-than. -/
theorem cmp_olt (a b : EReal) : Ideal.cmp .olt a b = 1#1 ↔ a < b := by
  unfold Ideal.cmp
  by_cases h : a < b <;> simp [h]

/-- The bit of an equality. -/
theorem cmp_oeq (a b : EReal) : Ideal.cmp .oeq a b = 1#1 ↔ a = b := by
  unfold Ideal.cmp
  by_cases h : a = b <;> simp [h]

/-- The bit of a disjunction. -/
theorem ori_one (a b : BitVec 1) : IntOp.ori a b = 1#1 ↔ a = 1#1 ∨ b = 1#1 := by
  revert a b
  decide

/-- The bit of a conjunction. -/
theorem andi_one (a b : BitVec 1) : IntOp.andi a b = 1#1 ↔ a = 1#1 ∧ b = 1#1 := by
  revert a b
  decide

/-- A choice by a bit is the choice by what the bit says. -/
theorem select_iff {α : Type} {c : BitVec 1} {p : Prop} [Decidable p] (h : c = 1#1 ↔ p) (a b : α) :
    Scalar.select c a b = if p then a else b := by
  show (if c = 1#1 then a else b) = _
  by_cases hp : p
  · rw [if_pos hp, if_pos (h.2 hp)]
  · rw [if_neg hp, if_neg fun hc => hp (h.1 hc)]

end Cert.K

end
-- ==== Proof.Words.lean ====
/- The float words of the bisection: the words 0 … 0x3F800000 as reals. They increase with the word, and above the
   smallest normal number one step up is at most one float epsilon, relatively. -/
module

public import Idealize.ShloMosaic.PureOps.Ideal
public import Idealize.ShloMosaic.PureOps.Ideal.Laws

@[expose] public section

noncomputable section

namespace Cert.K

open Idealize.ShloMosaic

/-- The real number that the nonnegative 32-bit float word `w` denotes. -/
def fl (w : ℕ) : ℝ :=
  if w / 2 ^ 23 = 0 then ((w % 2 ^ 23 : ℕ) : ℝ) * (2 : ℝ) ^ (-149 : ℤ)
  else ((2 ^ 23 + w % 2 ^ 23 : ℕ) : ℝ) * (2 : ℝ) ^ (((w / 2 ^ 23 : ℕ) : ℤ) - 150)

/-- The word of one. -/
abbrev oneW : ℕ := 1065353216

/-- A word up to that of one denotes the real `fl` of it. -/
theorem ofBits_fl (w : BitVec 32) (h : w.toNat ≤ oneW) : Ideal.ofBits .f32 w = ((fl w.toNat : ℝ) : EReal) := by
  have h31 : (w.extractLsb' (8 + 23) 1 == 1#1) = false := by
    have : w.extractLsb' (8 + 23) 1 ≠ 1#1 := by
      intro hc
      have := congrArg BitVec.toNat hc
      rw [BitVec.extractLsb'_toNat, Nat.shiftRight_eq_div_pow] at this
      rw [Nat.div_eq_of_lt (by unfold oneW at h; omega)] at this
      simp at this
    simpa using this
  have hex : (w.extractLsb' 23 8).toNat = w.toNat / 2 ^ 23 := by
    rw [BitVec.extractLsb'_toNat, Nat.shiftRight_eq_div_pow]
    exact Nat.mod_eq_of_lt (by unfold oneW at h; omega)
  have hfr : (w.extractLsb' 0 23).toNat = w.toNat % 2 ^ 23 := by
    rw [BitVec.extractLsb'_toNat]; rfl
  show Ideal.ieee 8 23 w = _
  unfold Ideal.ieee fl
  simp only [h31, hex, hfr]
  rw [if_neg (by unfold oneW at h; omega)]
  by_cases h0 : w.toNat / 2 ^ 23 = 0
  · rw [if_pos h0, if_pos h0]; norm_num
  · rw [if_neg h0, if_neg h0]
    congr 1
    rw [show ((w.toNat / 2 ^ 23 : ℕ) : ℤ) - (2 ^ (8 - 1) - 1) - (23 : ℕ) = ((w.toNat / 2 ^ 23 : ℕ) : ℤ) - 150 by norm_num; ring]
    simp

/-- The word above `w` denotes one unit in the last place more. -/
theorem fl_succ (w : ℕ) : fl (w + 1) = fl w + (2 : ℝ) ^ (((max (w / 2 ^ 23) 1 : ℕ) : ℤ) - 150) := by
  have hd : w = 2 ^ 23 * (w / 2 ^ 23) + w % 2 ^ 23 := (Nat.div_add_mod w _).symm
  have hm : w % 2 ^ 23 < 2 ^ 23 := Nat.mod_lt _ (by norm_num)
  generalize hq : w / 2 ^ 23 = q at *
  generalize hr : w % 2 ^ 23 = r at *
  unfold fl
  rw [hq, hr]
  by_cases hlast : r + 1 = 2 ^ 23
  · have e1 : (w + 1) / 2 ^ 23 = q + 1 := by omega
    have e2 : (w + 1) % 2 ^ 23 = 0 := by omega
    have er : (r : ℝ) = 2 ^ 23 - 1 := by
      have : ((r + 1 : ℕ) : ℝ) = ((2 ^ 23 : ℕ) : ℝ) := by rw [hlast]
      push_cast at this; linarith
    rw [e1, e2, if_neg (by omega)]
    by_cases q0 : q = 0
    · subst q0
      rw [if_pos rfl]
      push_cast
      rw [er]
      norm_num
    · rw [if_neg q0, max_eq_left (by omega : 1 ≤ q)]
      push_cast
      rw [er, show ((q : ℤ) + 1 - 150) = ((q : ℤ) - 150) + 1 by ring, zpow_add₀ (by norm_num : (2 : ℝ) ≠ 0)]
      ring
  · have e1 : (w + 1) / 2 ^ 23 = q := by omega
    have e2 : (w + 1) % 2 ^ 23 = r + 1 := by omega
    rw [e1, e2]
    by_cases q0 : q = 0
    · subst q0
      rw [if_pos rfl, if_pos rfl]
      push_cast
      norm_num
      ring
    · rw [if_neg q0, if_neg q0, max_eq_left (by omega : 1 ≤ q)]
      push_cast
      ring

/-- Larger words denote larger reals. -/
theorem fl_strictMono : StrictMono fl :=
  strictMono_nat_of_lt_succ fun w => by rw [fl_succ]; have : (0 : ℝ) < (2 : ℝ) ^ (((max (w / 2 ^ 23) 1 : ℕ) : ℤ) - 150) := by positivity
                                        linarith

/-- The number of the zero word. -/
theorem fl_zero : fl 0 = 0 := by unfold fl; norm_num

/-- The number of the word of one. -/
theorem fl_one : fl oneW = 1 := by
  unfold fl oneW
  norm_num

/-- The smallest normal number is far below one two-millionth. -/
theorem fl_normal : fl (2 ^ 23) ≤ 1 / 4000000 := by
  unfold fl
  norm_num

/-- From the smallest normal number on, one step up is at most one float epsilon, relatively. -/
theorem fl_step (w : ℕ) (h : 2 ^ 23 ≤ w) : fl (w + 1) ≤ fl w * (1 + (2 : ℝ) ^ (-23 : ℤ)) := by
  have hq : 1 ≤ w / 2 ^ 23 := by omega
  rw [fl_succ, max_eq_left hq]
  have : (2 : ℝ) ^ (((w / 2 ^ 23 : ℕ) : ℤ) - 150) ≤ fl w * (2 : ℝ) ^ (-23 : ℤ) := by
    unfold fl
    rw [if_neg (by omega)]
    have hp : (0 : ℝ) < (2 : ℝ) ^ (((w / 2 ^ 23 : ℕ) : ℤ) - 150) := by positivity
    have h1 : (2 ^ 23 : ℝ) ≤ ((2 ^ 23 + w % 2 ^ 23 : ℕ) : ℝ) := by push_cast; linarith [Nat.cast_nonneg (α := ℝ) (w % 2 ^ 23)]
    calc (2 : ℝ) ^ (((w / 2 ^ 23 : ℕ) : ℤ) - 150)
        = (2 ^ 23 : ℝ) * (2 : ℝ) ^ (((w / 2 ^ 23 : ℕ) : ℤ) - 150) * (2 : ℝ) ^ (-23 : ℤ) := by
          rw [mul_comm (2 ^ 23 : ℝ), mul_assoc]; norm_num
      _ ≤ _ := by gcongr
  linarith

end Cert.K

end
-- ==== Proof.Bisect.lean ====
/- The bisection over words: 31 halvings of the range 0 … 0x3F800000 end at the largest word of the range that a
   predicate holds of, when the predicate holds of zero and of every word below one it holds of. -/
module

public import proofs.«01_k».proof.Proof.Words

@[expose] public section

noncomputable section

namespace Cert.K

open Idealize.ShloMosaic

/-- One halving of the range `s` by the test `p` of its upper middle. -/
def halve (p : BitVec 32 → Bool) (s : BitVec 32 × BitVec 32) : BitVec 32 × BitVec 32 :=
  let mid := (s.1 + s.2 + 1#32).sshiftRight 1
  (if p mid then mid else s.1, if p mid then s.2 else mid - 1#32)

/-- What is kept of a range: its ends are ordered and at most the word of one, the predicate holds of its lower end,
    and no word of the predicate lies above its upper end. -/
structure Holds (P : ℕ → Prop) (d : ℕ) (s : BitVec 32 × BitVec 32) : Prop where
  le : s.1.toNat ≤ s.2.toNat
  top : s.2.toNat ≤ oneW
  gap : s.2.toNat - s.1.toNat ≤ d
  low : P s.1.toNat
  high : ∀ w, w ≤ oneW → P w → w ≤ s.2.toNat

/-- The middle of a range, as a number. -/
theorem mid_toNat (a b : BitVec 32) (ha : a.toNat ≤ oneW) (hb : b.toNat ≤ oneW) :
    ((a + b + 1#32).sshiftRight 1).toNat = (a.toNat + b.toNat + 1) / 2 := by
  have hs : (a + b + 1#32).toNat = a.toNat + b.toNat + 1 := by
    rw [BitVec.toNat_add, BitVec.toNat_add]
    have : (1#32).toNat = 1 := rfl
    rw [this]
    unfold oneW at *
    omega
  have hm : (a + b + 1#32).msb = false := by
    rw [BitVec.msb_eq_false_iff_two_mul_lt, hs]
    unfold oneW at *
    omega
  rw [BitVec.sshiftRight_eq_of_msb_false hm, BitVec.toNat_ushiftRight, hs, Nat.shiftRight_eq_div_pow]

/-- A halving keeps what is kept and halves the gap. -/
theorem Holds.halve {P : ℕ → Prop} (hP : ∀ a b, a ≤ b → P b → P a) (p : BitVec 32 → Bool)
    (hp : ∀ w : BitVec 32, w.toNat ≤ oneW → (p w = true ↔ P w.toNat)) {d : ℕ} {s : BitVec 32 × BitVec 32}
    (h : Holds P d s) : Holds P (d / 2) (halve p s) := by
  obtain ⟨h1, h2, h3, h4, h5⟩ := h
  have hm := mid_toNat s.1 s.2 (h1.trans h2) h2
  unfold K.halve
  dsimp only
  generalize (s.1 + s.2 + 1#32).sshiftRight 1 = mid at hm ⊢
  have hmo : mid.toNat ≤ oneW := by omega
  by_cases hc : p mid = true
  · rw [if_pos hc, if_pos hc]
    exact ⟨by dsimp only; omega, h2, by dsimp only; omega, (hp mid hmo).1 hc, h5⟩
  · rw [if_neg hc, if_neg hc]
    have hnP : ¬ P mid.toNat := fun q => hc ((hp mid hmo).2 q)
    have hlt : s.1.toNat < mid.toNat := by
      by_contra hh
      exact hnP (hP _ _ (not_lt.1 hh) h4)
    have hsub : (mid - 1#32).toNat = mid.toNat - 1 := by
      rw [BitVec.toNat_sub]
      have : (1#32).toNat = 1 := rfl
      rw [this]
      have := mid.isLt
      omega
    refine ⟨by dsimp only; omega, by dsimp only; omega, by dsimp only; omega, h4, fun w hw hPw => ?_⟩
    dsimp only
    rw [hsub]
    by_contra hh
    exact hnP (hP _ _ (by omega) hPw)

/-- After 31 halvings the lower end is the largest word up to that of one that the predicate holds of. -/
theorem bisect {P : ℕ → Prop} (hP : ∀ a b, a ≤ b → P b → P a) (h0 : P 0) (p : BitVec 32 → Bool)
    (hp : ∀ w : BitVec 32, w.toNat ≤ oneW → (p w = true ↔ P w.toNat)) (f : ℕ → BitVec 32 × BitVec 32)
    (hf0 : f 0 = (0#32, 1065353216#32)) (hf : ∀ k, k < 31 → f (k + 1) = halve p (f k)) :
    (f 31).1.toNat ≤ oneW ∧ P (f 31).1.toNat ∧ ∀ w, w ≤ oneW → P w → w ≤ (f 31).1.toNat := by
  have inv : ∀ k, k ≤ 31 → Holds P (2 ^ 30 / 2 ^ k) (f k) := by
    intro k
    induction k with
    | zero =>
      intro _
      rw [hf0]
      exact ⟨by simp, by simp, by simp, by simpa using h0, fun w hw _ => by simpa using hw⟩
    | succ k ih =>
      intro hk
      rw [hf k (by omega), show (2 : ℕ) ^ 30 / 2 ^ (k + 1) = 2 ^ 30 / 2 ^ k / 2 by rw [Nat.div_div_eq_div_mul, ← Nat.pow_succ]]
      exact (ih (by omega)).halve hP p hp
  obtain ⟨h1, h2, h3, h4, h5⟩ := inv 31 le_rfl
  have : (2 : ℕ) ^ 30 / 2 ^ 31 = 0 := by norm_num
  rw [this] at h3
  exact ⟨h1.trans h2, h4, fun w hw hPw => (h5 w hw hPw).trans (by omega)⟩

end Cert.K

end
-- ==== Proof.Block.lean ====
/- What one row of a block comes out as: the confidence at the word that 31 halvings of the range of thresholds end at,
   and the column of the row's largest logit. -/
module

public import proofs.«01_k».proof.Proof.BlockRun
public import proofs.«01_k».proof.Proof.RowOps
public import proofs.«01_k».proof.Proof.Bisect

@[expose] public section

noncomputable section

namespace Cert.K

open Cert.KernelIdeal Cert.KernelIdeal.Gen Idealize.ShloMosaic Idealize.ShloMosaic.TcCoe Idealize.ShloMosaic.ValueIdx

/-- What a halving tests of the word `w`: 64 weights reach its float, or those that do have more than the share. -/
def Test {n : ℕ} (f : Fin n → EReal) (w : BitVec 32) : Prop :=
  64 ≤ (Finset.univ.filter fun k => Ideal.ofBits .f32 w ≤ weight f k).card ∨
    Ideal.ofBits .f32 0x3F733333#32 * ∑ k, weight f k
      < ∑ k, if Ideal.ofBits .f32 w ≤ weight f k then weight f k else 0

/-- The confidence of a row at the threshold of the word `w`. -/
def conf {n : ℕ} (f : Fin n → EReal) (w : BitVec 32) : EReal :=
  Ideal.div 1 (∑ k, if Ideal.ofBits .f32 w ≤ weight f k then weight f k else 0)

/-- The least column whose logit is the row's largest, as the kernel finds it. -/
def firstTop {n : ℕ} (f : Fin n → EReal) : BitVec 32 :=
  (Finset.univ : Finset (Fin n)).fold IntOp.minsi 2147483647#32
    fun k => if f k = top f then BitVec.ofNat 32 k.val else 2147483647#32

variable (x : Vec Ideal S8x100000 .f32) (r : Fin 8)

/-- Row `r` of a block. -/
def brow (k : Fin 100000) : EReal := x (ix2 r k)

/-- The block's largest logit of a row. -/
theorem pay1_row (u : Fin 1) : (k0_pay1 x (ix2 r u) : EReal) = top (brow x r) := by
  unfold k0_pay1
  exact (shapeCast_a_a1_apply _ _ r u).trans (rowMax_apply x _ _ _ r)

/-- The block's weight of a row at a column: the exponential relative to the row's largest logit. -/
theorem pay3_row (k : Fin 100000) : (k0_pay3 x (ix2 r k) : EReal) = weight (brow x r) k := by
  unfold k0_pay3
  show Ideal.exp (x (ix2 r k) - broadcastTo S8x100000 (k0_pay1 x) broadcasts_S8x1_S8x100000 (ix2 r k)) = _
  rw [spread_apply (k0_pay1 x) _ (by decide) r k]
  exact congrArg (fun t => Ideal.exp (x (ix2 r k) - t)) (pay1_row x r 0)

/-- The second output's row. -/
theorem pay2_row (u : Fin 1) : k0_pay2 x (ix2 r u) = firstTop (brow x r) := by
  unfold k0_pay2
  refine (shapeCast_a_a1_apply _ _ r u).trans ((rowFoldI_apply .minsi _ _ _ _ r).trans ?_)
  unfold firstTop
  refine congrArg (fun f : Fin 100000 → BitVec 32 => (Finset.univ : Finset (Fin 100000)).fold IntOp.minsi 2147483647#32 f)
    (funext fun k => ?_)
  rw [select_apply, iota_single_apply, broadcast_apply]
  refine select_iff (p := brow x r k = top (brow x r)) ?_ _ _
  rw [← pay1_row x r 0, ← spread_apply (k0_pay1 x) broadcasts_S8x1_S8x100000 (by decide) r k]
  exact cmp_oeq _ _

variable (lo hi : IVec S8x1 32)

/-- The row's sum of the weights that reach a word's float. -/
theorem reach_row (w : IVec S8x1 32) :
    (multiReduction (F := Ideal) .add [1] S8
        (select (cmpf .oge (k0_pay3 x) (broadcastTo S8x100000 (bitcastToFloat .f32 w) broadcasts_S8x1_S8x100000)) (k0_pay3 x)
          (broadcast S8x100000 (Scalar.ofBits (F := Ideal) .f32 0x00000000#32)))
        0x00000000#32 reduces_S8x100000_S8 (.inl rfl) rfl (ix1 r) : EReal)
      = ∑ k, if Ideal.ofBits .f32 (w (ix2 r 0)) ≤ weight (brow x r) k then weight (brow x r) k else 0 := by
  refine (rowSum_apply _ _ _ _ _ r).trans (Finset.sum_congr rfl fun k _ => ?_)
  rw [← pay3_row x r k]
  refine (select_iff (p := Ideal.ofBits .f32 (w (ix2 r 0)) ≤ k0_pay3 x (ix2 r k)) ?_ _ _).trans ?_
  · refine (cmp_oge _ _).trans ?_
    rw [spread_apply (bitcastToFloat (F := Ideal) .f32 w) broadcasts_S8x1_S8x100000 (by decide) r k]
    rfl
  · have : (Scalar.ofBits (F := Ideal) .f32 0x00000000#32 : EReal) = 0 := Ideal.ofBits_zero_f32
    rw [broadcast_apply, this]

/-- The number of the weights that reach a word's float. -/
theorem count_row (w : IVec S8x1 32) :
    (multiReductionI .add [1] S8 (extui 32 (cmpf (F := Ideal) .oge (k0_pay3 x)
        (broadcastTo S8x100000 (bitcastToFloat .f32 w) broadcasts_S8x1_S8x100000)) natLt_1_32) 0#32 reduces_S8x100000_S8 rfl (ix1 r)).toNat
      = (Finset.univ.filter fun k => Ideal.ofBits .f32 (w (ix2 r 0)) ≤ weight (brow x r) k).card := by
  have e : ∀ k : Fin 100000, ((extui 32 (cmpf (F := Ideal) .oge (k0_pay3 x)
        (broadcastTo S8x100000 (bitcastToFloat .f32 w) broadcasts_S8x1_S8x100000)) natLt_1_32) (ix2 r k)).toNat
      = if Ideal.ofBits .f32 (w (ix2 r 0)) ≤ weight (brow x r) k then 1 else 0 := fun k => by
    rw [← pay3_row x r k, extui_apply]
    have hc := (cmp_oge (k0_pay3 x (ix2 r k)) (Ideal.ofBits .f32 (w (ix2 r 0))))
    have hb : cmpf (F := Ideal) .oge (k0_pay3 x) (broadcastTo S8x100000 (bitcastToFloat .f32 w) broadcasts_S8x1_S8x100000) (ix2 r k)
        = Ideal.cmp .oge (k0_pay3 x (ix2 r k)) (Ideal.ofBits .f32 (w (ix2 r 0))) := by
      rw [cmpf_apply, spread_apply (bitcastToFloat (F := Ideal) .f32 w) broadcasts_S8x1_S8x100000 (by decide) r k]
      rfl
    rw [hb]
    by_cases h : Ideal.ofBits .f32 (w (ix2 r 0)) ≤ k0_pay3 x (ix2 r k)
    · rw [if_pos h, hc.2 h]
      rfl
    · rw [if_neg h, eq_zero_of_ne_one fun h1 => h (hc.1 h1)]
      rfl
  have hS : ∑ k : Fin 100000, ((extui 32 (cmpf (F := Ideal) .oge (k0_pay3 x)
        (broadcastTo S8x100000 (bitcastToFloat .f32 w) broadcasts_S8x1_S8x100000)) natLt_1_32) (ix2 r k)).toNat
      = (Finset.univ.filter fun k => Ideal.ofBits .f32 (w (ix2 r 0)) ≤ weight (brow x r) k).card := by
    rw [Finset.card_filter]
    exact Finset.sum_congr rfl fun k _ => e k
  have hle : (Finset.univ.filter fun k => Ideal.ofBits .f32 (w (ix2 r 0)) ≤ weight (brow x r) k).card ≤ 100000 :=
    (Finset.card_le_univ _).trans (by rw [Fintype.card_fin])
  exact (rowSumI_toNat _ _ _ r (by rw [hS]; omega)).trans hS

/-- A row's bit of the test: enough of the row, by number or by mass, is at or above the middle threshold. -/
theorem pay7_row : k0_pay7 x lo hi (ix2 r 0) = 1#1 ↔ Test (brow x r) (k0_pay6 lo hi (ix2 r 0)) := by
  have hc := count_row x r (k0_pay6 lo hi)
  have hle : (Finset.univ.filter fun k => Ideal.ofBits .f32 (k0_pay6 lo hi (ix2 r 0)) ≤ weight (brow x r) k).card ≤ 100000 :=
    (Finset.card_le_univ _).trans (by rw [Fintype.card_fin])
  have hs := reach_row x r (k0_pay6 lo hi)
  have hz : (multiReduction (F := Ideal) .add [1] S8 (k0_pay3 x) 0x00000000#32 reduces_S8x100000_S8 (.inl rfl) rfl (ix1 r) : EReal)
      = ∑ k, weight (brow x r) k :=
    (rowSum_apply _ _ _ _ _ r).trans (Finset.sum_congr rfl fun k _ => pay3_row x r k)
  rw [← hc] at hle
  unfold Test
  rw [← hc, ← hs, ← hz]
  unfold k0_pay7
  dsimp only
  rw [ori_at, ori_one, cmpi_at, cmpf_apply, shapeCast_a_a1_apply, shapeCast_a_a1_apply, mulf_apply, shapeCast_a_a1_apply,
    broadcast_apply, broadcast_apply]
  exact or_congr (sge64 _ hle) (cmp_ogt _ _)

open Classical in
/-- A row's range is halved by the row's test. -/
theorem step_row (k : ℕ) :
    ((ranges x (k + 1)).1 (ix2 r 0), (ranges x (k + 1)).2 (ix2 r 0))
      = halve (fun w => decide (Test (brow x r) w)) ((ranges x k).1 (ix2 r 0), (ranges x k).2 (ix2 r 0)) := by
  have hmid : k0_pay6 (ranges x k).1 (ranges x k).2 (ix2 r 0)
      = ((ranges x k).1 (ix2 r 0) + (ranges x k).2 (ix2 r 0) + 1#32).sshiftRight 1 := rfl
  have h7 := pay7_row x r (ranges x k).1 (ranges x k).2
  rw [hmid] at h7
  unfold halve
  refine Prod.ext ?_ ?_
  · refine (select_iff h7 _ _).trans ?_
    rw [hmid]
    dsimp only
    by_cases hT : Test (brow x r) (((ranges x k).1 (ix2 r 0) + (ranges x k).2 (ix2 r 0) + 1#32).sshiftRight 1)
    · rw [if_pos hT, if_pos (decide_eq_true hT)]
    · rw [if_neg hT, if_neg (by rw [decide_eq_false hT]; exact Bool.false_ne_true)]
  · refine (select_iff h7 _ _).trans ?_
    dsimp only
    by_cases hT : Test (brow x r) (((ranges x k).1 (ix2 r 0) + (ranges x k).2 (ix2 r 0) + 1#32).sshiftRight 1)
    · rw [if_pos hT, if_pos (decide_eq_true hT)]
    · rw [if_neg hT, if_neg (by rw [decide_eq_false hT]; exact Bool.false_ne_true)]
      rfl

/-- The first output's row. -/
theorem pay10_row (w : IVec S8x1 32) (u : Fin 1) : (k0_pay10 x w (ix2 r u) : EReal) = conf (brow x r) (w (ix2 r 0)) := by
  unfold k0_pay10 conf
  dsimp only
  rw [divf_apply, shapeCast_a_a1_apply, reach_row x r w, broadcast_apply]
  exact congrArg (fun t => Ideal.div t _) Ideal.ofBits_one_f32

end Cert.K

end
-- ==== Proof.KernelArray.lean ====
/- What the kernel's two result arrays hold: at each row, the confidence and the column of that row of the logits. -/
module

public import proofs.«01_k».proof.Proof.Block
public import proofs.«01_k».proof.Proof.Gen.KernelIdeal.Value

@[expose] public section

noncomputable section

namespace Cert.K

open Cert.KernelIdeal Cert.KernelIdeal.Gen Idealize.ShloMosaic Idealize.ShloMosaic.TcCoe Idealize.ShloMosaic.ValueIdx Idealize.SL.Sem

open Classical in
/-- The range of a row's thresholds after `k` halvings. -/
def rangeOf {n : ℕ} (f : Fin n → EReal) : ℕ → BitVec 32 × BitVec 32
  | 0 => (0#32, 1065353216#32)
  | k + 1 => halve (fun w => decide (Test f w)) (rangeOf f k)

/-- The word that a row's halvings end at. -/
def wordOf {n : ℕ} (f : Fin n → EReal) : BitVec 32 := (rangeOf f 31).1

/-- A block's ranges at a row are those of the row alone. -/
theorem ranges_row (x : Vec Ideal S8x100000 .f32) (r : Fin 8) (k : ℕ) :
    ((ranges x k).1 (ix2 r 0), (ranges x k).2 (ix2 r 0)) = rangeOf (brow x r) k := by
  induction k with
  | zero => rfl
  | succ k ih => rw [step_row, ih]; rfl

variable (m : (ℓ : Loc nD τ sig) → Buf (Elt Ideal) ℓ) (ρ : Dev nD → PrngReg)

/-- Row `r` of the logits as launched. -/
def krow (c : Dev nD) (r : Fin 128) (k : Fin 100000) : EReal := m ((c : Thread nD τ).loc main_arg0) (ix2 r k)

/-- The logits' window moves down one block a step. -/
theorem idx0 : ∀ t : Fin cfg0.N, win0_0.index t (0 : Fin 2) = t.val ∧ win0_0.index t (1 : Fin 2) = 0 :=
  (by decide +kernel : ∀ t : Fin grid0.N, _)
/-- The first result's window moves down one block a step. -/
theorem idx1 : ∀ t : Fin cfg0.N, win0_1.index t (0 : Fin 2) = t.val ∧ win0_1.index t (1 : Fin 2) = 0 :=
  (by decide +kernel : ∀ t : Fin grid0.N, _)
/-- The second result's window moves down one block a step. -/
theorem idx2 : ∀ t : Fin cfg0.N, win0_2.index t (0 : Fin 2) = t.val ∧ win0_2.index t (1 : Fin 2) = 0 :=
  (by decide +kernel : ∀ t : Fin grid0.N, _)

/-- Point `t` works on rows `8t … 8t + 7`. -/
def rowAt (t : Fin cfg0.N) (r : Fin 8) : Fin 128 :=
  ⟨t.val * 8 + r.val, by have : t.val < 16 := t.isLt; omega⟩

/-- Where an entry of the logits' block lies in the array. -/
theorem emb0 (t : Fin cfg0.N) (r : Fin 8) (k : Fin 100000) :
    ((cfg0.win 0).blk t).view.emb (ix2 r k) = ix2 (rowAt t r) k := by
  obtain ⟨e0, e1⟩ := idx0 t
  funext a; apply Fin.ext
  match a with
  | ⟨0, _⟩ => show win0_0.index t (0 : Fin 2) * 8 + 1 * r.val = t.val * 8 + r.val; omega
  | ⟨1, _⟩ => show win0_0.index t (1 : Fin 2) * 100000 + 1 * k.val = k.val; omega

/-- Where an entry of the first result's block lies in the array. -/
theorem emb1 (t : Fin cfg0.N) (r : Fin 8) (u : Fin 1) :
    ((cfg0.win 1).blk t).view.emb (ix2 r u) = ix2 (rowAt t r) u := by
  obtain ⟨e0, e1⟩ := idx1 t
  funext a; apply Fin.ext
  match a with
  | ⟨0, _⟩ => show win0_1.index t (0 : Fin 2) * 8 + 1 * r.val = t.val * 8 + r.val; omega
  | ⟨1, _⟩ => show win0_1.index t (1 : Fin 2) * 1 + 1 * u.val = u.val; omega

/-- Where an entry of the second result's block lies in the array. -/
theorem emb2 (t : Fin cfg0.N) (r : Fin 8) (u : Fin 1) :
    ((cfg0.win 2).blk t).view.emb (ix2 r u) = ix2 (rowAt t r) u := by
  obtain ⟨e0, e1⟩ := idx2 t
  funext a; apply Fin.ext
  match a with
  | ⟨0, _⟩ => show win0_2.index t (0 : Fin 2) * 8 + 1 * r.val = t.val * 8 + r.val; omega
  | ⟨1, _⟩ => show win0_2.index t (1 : Fin 2) * 1 + 1 * u.val = u.val; omega

/-- A row of a point's input block is a row of the logits. -/
theorem brow_iblk (c : Dev nD) (t : Fin cfg0.N) (r : Fin 8) : brow (iblk m c 0 t) r = krow m c (rowAt t r) := by
  funext k
  show V m c main_arg0 (((cfg0.win 0).blk t).view.emb (ix2 r k)) = _
  rw [emb0, V_main_arg0]
  rfl

/-- The first result at a row. -/
theorem arr1 (c : Dev nD) (R : Fin 128) (u : Fin 1) :
    ((dats m 0 c).arrAt 1 cfg0.N (ix2 R u) : EReal) = conf (krow m c R) (wordOf (krow m c R)) := by
  obtain ⟨t, r, rfl⟩ : ∃ (t : Fin cfg0.N) (r : Fin 8), R = rowAt t r :=
    ⟨(⟨R.val / 8, by have := R.isLt; show R.val / 8 < 16; omega⟩ : Fin cfg0.N), ⟨R.val % 8, by omega⟩,
      Fin.ext (by show R.val = R.val / 8 * 8 + R.val % 8; omega)⟩
  have hb := congrFun (Value.blocks1 m c t (flush0_1 t)) (ix2 r u)
  have hr : ((dats m 0 c).arrAt 1 cfg0.N (((cfg0.win 1).blk t).view.emb (ix2 r u)) : EReal)
      = (dats m 0 c).flushed 1 t (ix2 r u) := hb
  rw [emb1] at hr
  rw [hr, Value.flushed1_A, out1]
  refine (pay10_row (iblk m c 0 t) r _ u).trans ?_
  have := congrArg Prod.fst (ranges_row (iblk m c 0 t) r 31)
  dsimp only at this
  rw [this, brow_iblk]
  rfl

/-- The second result at a row. -/
theorem arr2 (c : Dev nD) (R : Fin 128) (u : Fin 1) :
    (dats m 0 c).arrAt 2 cfg0.N (ix2 R u) = firstTop (krow m c R) := by
  obtain ⟨t, r, rfl⟩ : ∃ (t : Fin cfg0.N) (r : Fin 8), R = rowAt t r :=
    ⟨(⟨R.val / 8, by have := R.isLt; show R.val / 8 < 16; omega⟩ : Fin cfg0.N), ⟨R.val % 8, by omega⟩,
      Fin.ext (by show R.val = R.val / 8 * 8 + R.val % 8; omega)⟩
  have hb := congrFun (Value.blocks2 m c t (flush0_2 t)) (ix2 r u)
  have hr : (dats m 0 c).arrAt 2 cfg0.N (((cfg0.win 2).blk t).view.emb (ix2 r u))
      = (dats m 0 c).flushed 2 t (ix2 r u) := hb
  rw [emb2] at hr
  rw [hr, Value.flushed2_A, out2]
  refine (pay2_row (iblk m c 0 t) r u).trans ?_
  rw [brow_iblk]

end Cert.K

end
-- ==== Proof.Row.lean ====
/- One row in the order of its logits, over the reals: the weights from the largest down, the prefix that the two rules
   keep, and why the threshold that the bisection ends at keeps the same prefix. -/
module

public import proofs.«01_k».proof.Proof.Words
public import Mathlib.Analysis.SpecialFunctions.Exp

@[expose] public section

noncomputable section

namespace Cert.K

variable {N : ℕ}

/-- The share of the mass that the first rule asks for, as the rational of its float word. -/
def share : ℝ := 15938355 / 16777216

/-- The weights before the `i`-th, added up. -/
def before (g : Fin N → ℝ) (i : Fin N) : ℝ := ∑ k, if k < i then g k else 0

/-- What the bisection tests of a threshold `u`: 64 weights reach it, or those that do have more than the share. -/
def Enough (g : Fin N → ℝ) (u : ℝ) : Prop :=
  64 ≤ (Finset.univ.filter fun i => u ≤ g i).card ∨ share * ∑ i, g i < ∑ i, if u ≤ g i then g i else 0

/-- What is known of a row in order: weights from one down, none negative, a prefix `kp` whose end is a relative
    float epsilon from what follows. -/
structure Ordered (g : Fin N → ℝ) (kp : Fin N → Prop) (h63 : 63 < N) : Prop where
  size : N ≤ 100000
  anti : Antitone g
  first : g ⟨0, by omega⟩ = 1
  nonneg : ∀ i, 0 ≤ g i
  kept0 : kp ⟨0, by omega⟩
  /-- What is kept has at most the share before it, and is not below the 64th. -/
  kept : ∀ i, kp i → before g i ≤ share * ∑ k, g k ∧ g ⟨63, h63⟩ ≤ g i
  /-- What is dropped has more than the share before it, or comes after the 64th. -/
  dropped : ∀ i, ¬ kp i → share * ∑ k, g k < before g i ∨ 63 < i.val
  pre : ∀ i j, i ≤ j → kp j → kp i
  gap : ∀ i j : Fin N, j.val = i.val + 1 → kp i → ¬ kp j → g j ≤ g i * Real.exp (-(2 : ℝ) ^ (-23 : ℤ))

/-- Enough at a threshold is enough at a lower one. -/
theorem Enough.anti {g : Fin N → ℝ} (hg : ∀ i, 0 ≤ g i) {u v : ℝ} (huv : u ≤ v) (h : Enough g v) : Enough g u := by
  rcases h with h | h
  · refine .inl (h.trans (Finset.card_le_card fun i hi => ?_))
    rw [Finset.mem_filter] at hi ⊢
    exact ⟨hi.1, huv.trans hi.2⟩
  · refine .inr (h.trans_le (Finset.sum_le_sum fun i _ => ?_))
    by_cases hv : v ≤ g i
    · rw [if_pos hv, if_pos (huv.trans hv)]
    · rw [if_neg hv]
      split_ifs
      · exact hg i
      · exact le_rfl

/-- Zero is low enough a threshold. -/
theorem enough_zero {g : Fin N → ℝ} (h63 : 63 < N) (hg : ∀ i, 0 ≤ g i) : Enough g 0 := by
  refine .inl ?_
  rw [Finset.filter_true_of_mem fun i _ => hg i, Finset.card_univ, Fintype.card_fin]
  exact h63

variable {g : Fin N → ℝ} {kp : Fin N → Prop} {h63 : 63 < N}

/-- A threshold that is enough reaches down to everything kept. -/
theorem Ordered.le_of_kept (h : Ordered g kp h63) {u : ℝ} (hu : Enough g u) {i : Fin N} (hi : kp i) : u ≤ g i := by
  by_contra hlt
  rw [not_le] at hlt
  have hsub : ∀ j, u ≤ g j → j < i := fun j hj => by
    by_contra hji
    exact absurd (h.anti (not_lt.1 hji)) (not_le.2 (hlt.trans_le hj))
  obtain ⟨h1, h2⟩ := h.kept i hi
  rcases hu with hu | hu
  · have : ∃ j : Fin N, u ≤ g j ∧ 63 ≤ j.val := by
      by_contra hno
      push Not at hno
      have hc : (Finset.univ.filter fun i => u ≤ g i).card ≤ 63 := by
        calc (Finset.univ.filter fun i => u ≤ g i).card
            ≤ (Finset.range 63).card := by
              refine Finset.card_le_card_of_injOn (fun i : Fin N => i.val) (fun i hi => ?_) fun a _ b _ hab => Fin.ext hab
              rw [Finset.mem_coe, Finset.mem_filter] at hi
              rw [Finset.mem_coe, Finset.mem_range]
              exact hno i hi.2
          _ = 63 := Finset.card_range 63
      omega
    obtain ⟨j, hj, hj63⟩ := this
    have : g j ≤ g ⟨63, h63⟩ := h.anti hj63
    linarith
  · have : (∑ i, if u ≤ g i then g i else 0) ≤ before g i := by
      refine Finset.sum_le_sum fun j _ => ?_
      by_cases hj : u ≤ g j
      · rw [if_pos hj, if_pos (hsub j hj)]
      · rw [if_neg hj]
        split_ifs
        · exact h.nonneg j
        · exact le_rfl
    linarith

/-- Where something is dropped there is a last kept place, with a dropped one right after it, at or before it. -/
theorem Ordered.last (h : Ordered g kp h63) {i : Fin N} (hi : ¬ kp i) :
    ∃ a b : Fin N, b.val = a.val + 1 ∧ b ≤ i ∧ kp a ∧ ¬ kp b := by
  obtain ⟨i, hlt⟩ := i
  induction i with
  | zero => exact absurd h.kept0 hi
  | succ k ih =>
    by_cases hk : kp ⟨k, by omega⟩
    · exact ⟨⟨k, by omega⟩, ⟨k + 1, hlt⟩, rfl, le_rfl, hk, hi⟩
    · obtain ⟨a, b, h1, h2, h3, h4⟩ := ih (by omega) hk
      exact ⟨a, b, h1, h2.trans (Fin.mk_le_mk.2 (Nat.le_succ k)), h3, h4⟩

/-- The last kept weight is enough as a threshold. -/
theorem Ordered.enough_last (h : Ordered g kp h63) {a b : Fin N} (hab : b.val = a.val + 1) (hb : ¬ kp b) :
    Enough g (g a) := by
  have hle : ∀ j : Fin N, j < b → g a ≤ g j := fun j hj => h.anti (by
    rw [Fin.lt_def] at hj
    rw [Fin.le_def]
    omega)
  rcases h.dropped b hb with hd | hd
  · refine .inr (hd.trans_le (Finset.sum_le_sum fun j _ => ?_))
    by_cases hj : j < b
    · rw [if_pos hj, if_pos (hle j hj)]
    · rw [if_neg hj]
      split_ifs
      · exact h.nonneg j
      · exact le_rfl
  · refine .inl ?_
    calc 64 = (Finset.range 64).card := (Finset.card_range 64).symm
      _ ≤ _ := by
        refine Finset.card_le_card_of_injOn (fun k => if hk : k < N then (⟨k, hk⟩ : Fin N) else ⟨0, by omega⟩)
          (fun k hk => ?_) fun p hp q hq hpq => ?_
        · rw [Finset.mem_coe, Finset.mem_range] at hk
          rw [Finset.mem_coe, Finset.mem_filter]
          have hkN : k < N := by omega
          simp only [dif_pos hkN]
          exact ⟨Finset.mem_univ _, hle _ (by rw [Fin.lt_def]; dsimp only; omega)⟩
        · rw [Finset.mem_coe, Finset.mem_range] at hp hq
          have hpN : p < N := by omega
          have hqN : q < N := by omega
          simp only [dif_pos hpN, dif_pos hqN, Fin.mk.injEq] at hpq
          exact hpq

/-- The last kept weight is no denormal: what is left of the mass from it on is spread over the row. -/
theorem Ordered.last_ge (h : Ordered g kp h63) {a : Fin N} (ha : kp a) : 1 / 4000000 ≤ g a := by
  have hZ : 1 ≤ ∑ k, g k := by
    rw [← h.first]
    exact Finset.single_le_sum (f := g) (fun i _ => h.nonneg i) (Finset.mem_univ _)
  have hsplit : ∑ k, g k ≤ before g a + N * g a := by
    calc ∑ k, g k ≤ ∑ k, ((if k < a then g k else 0) + g a) := Finset.sum_le_sum fun k _ => by
          by_cases hk : k < a
          · rw [if_pos hk]
            linarith [h.nonneg a]
          · rw [if_neg hk, zero_add]
            exact h.anti (not_lt.1 hk)
      _ = before g a + N * g a := by
          rw [Finset.sum_add_distrib, Finset.sum_const, Finset.card_univ, Fintype.card_fin, nsmul_eq_mul]
          rfl
  have hk := (h.kept a ha).1
  have hN : (N : ℝ) * g a ≤ 100000 * g a :=
    mul_le_mul_of_nonneg_right (by exact_mod_cast h.size) (h.nonneg a)
  unfold share at hk
  linarith

/-- What the bisection ends at keeps exactly the prefix: `W` is the largest word up to that of one whose float is
    enough of a threshold. -/
theorem Ordered.kept_iff (h : Ordered g kp h63) {W : ℕ} (hW : W ≤ oneW) (hQ : Enough g (fl W))
    (hmax : ∀ w, w ≤ oneW → Enough g (fl w) → w ≤ W) (i : Fin N) : fl W ≤ g i ↔ kp i := by
  refine ⟨fun hle => ?_, h.le_of_kept hQ⟩
  by_contra hi
  obtain ⟨a, b, hab, hbi, ha, hb⟩ := h.last hi
  have hgap := h.gap a b hab ha hb
  have hib : g i ≤ g b := h.anti hbi
  have ha1 : g a ≤ 1 := h.first ▸ h.anti (Fin.mk_le_mk.2 (Nat.zero_le _))
  have hage := h.last_ge ha
  have hε : (0 : ℝ) < (2 : ℝ) ^ (-23 : ℤ) := by positivity
  have hδ0 := Real.exp_pos (-(2 : ℝ) ^ (-23 : ℤ))
  have hδ1 : (1 + (2 : ℝ) ^ (-23 : ℤ)) * Real.exp (-(2 : ℝ) ^ (-23 : ℤ)) ≤ 1 := by
    have := Real.add_one_le_exp ((2 : ℝ) ^ (-23 : ℤ))
    calc (1 + (2 : ℝ) ^ (-23 : ℤ)) * Real.exp (-(2 : ℝ) ^ (-23 : ℤ))
        ≤ Real.exp ((2 : ℝ) ^ (-23 : ℤ)) * Real.exp (-(2 : ℝ) ^ (-23 : ℤ)) :=
          mul_le_mul_of_nonneg_right (by linarith) hδ0.le
      _ = 1 := by rw [← Real.exp_add, add_neg_cancel, Real.exp_zero]
  have hQa := h.enough_last hab hb
  -- the largest word whose float is at most the last kept weight
  obtain ⟨w, hw, hwa, hwn⟩ : ∃ w, w ≤ oneW ∧ fl w ≤ g a ∧ (w = oneW ∨ g a < fl (w + 1)) := by
    classical
    refine ⟨Nat.findGreatest (fun w => fl w ≤ g a) oneW, Nat.findGreatest_le _, ?_, ?_⟩
    · exact Nat.findGreatest_spec (P := fun w => fl w ≤ g a) (Nat.zero_le _) (by rw [fl_zero]; exact h.nonneg a)
    · rcases (Nat.findGreatest_le (P := fun w => fl w ≤ g a) oneW).eq_or_lt with he | hl
      · exact .inl he
      · exact .inr (not_le.1 (Nat.findGreatest_is_greatest (P := fun w => fl w ≤ g a) (Nat.lt_succ_self _) hl))
  have hwW : w ≤ W := hmax w hw (hQa.anti h.nonneg hwa)
  have hfl : fl w ≤ fl W := fl_strictMono.monotone hwW
  rcases hwn with rfl | hwn
  · rw [fl_one] at hfl
    nlinarith
  · have hnorm : 2 ^ 23 ≤ w := by
      by_contra hlt
      have : fl (w + 1) ≤ fl (2 ^ 23) := fl_strictMono.monotone (by omega)
      exact lt_irrefl _ (hwn.trans_le (this.trans (fl_normal.trans hage)))
    have hstep := fl_step w hnorm
    have hw0 : 0 ≤ fl w := by
      rw [← fl_zero]
      exact fl_strictMono.monotone (Nat.zero_le _)
    have h1 : g a * Real.exp (-(2 : ℝ) ^ (-23 : ℤ)) < fl w * (1 + (2 : ℝ) ^ (-23 : ℤ)) * Real.exp (-(2 : ℝ) ^ (-23 : ℤ)) :=
      mul_lt_mul_of_pos_right (hwn.trans_le hstep) hδ0
    have h2 : fl w * (1 + (2 : ℝ) ^ (-23 : ℤ)) * Real.exp (-(2 : ℝ) ^ (-23 : ℤ)) ≤ fl w := by
      rw [mul_assoc]
      exact mul_le_of_le_one_right hw0 hδ1
    linarith

end Cert.K

end
-- ==== Proof.Sorted.lean ====
/- The order that the logits of one row are sorted into: greatest first. -/
module

public import proofs.«01_k».proof.Proof.RowOps
public import proofs.«01_k».proof.Proof.Gen.ReferenceIdeal
public import proofs.«01_k».proof.Proof.Gen.Pre_separated
public import Idealize.ShloMosaic.Lib.SortFacts

@[expose] public section

noncomputable section

namespace Cert.K

open Idealize.ShloMosaic Idealize.ShloMosaic.ValueIdx Idealize.SL.Sem

/-- The column whose logit lands at place `k` when a row is sorted, greatest first. -/
def place {n : ℕ} (f : Fin n → EReal) (k : Fin n) : Fin n := sortedFrom (fun a b => decide (f b < f a)) k

/-- Every column has one place. -/
theorem place_bijective {n : ℕ} (f : Fin n → EReal) : Function.Bijective (place f) :=
  ⟨sortedFrom_injective _, sortedFrom_surjective _⟩

/-- Along the order the entries go down. -/
theorem place_anti {n : ℕ} (f : Fin n → EReal) {i j : Fin n} (h : i ≤ j) : f (place f j) ≤ f (place f i) := by
  rcases h.eq_or_lt with rfl | h
  · exact le_rfl
  have := sortedFrom_noInversion (fun a b => decide (f b < f a)) (fun a b => decide (f b < f a))
    (fun a b h => by simp only [decide_eq_true_eq, decide_eq_false_iff_not, not_lt] at h ⊢; exact h.le)
    (fun a b h => h)
    (fun a b c h1 h2 => by
      simp only [decide_eq_true_eq, decide_eq_false_iff_not, not_lt] at h1 h2 ⊢
      first | exact h2.trans h1 | exact h1.trans h2 | exact h2.trans_lt h1) i j h
  simpa [place] using this

/-- A row as the permutation of its sorted places. -/
def placeEquiv {n : ℕ} (f : Fin n → EReal) : Fin n ≃ Fin n := Equiv.ofBijective (place f) (place_bijective f)

/-- Nothing differs from itself: no extended real is a NaN. -/
theorem une_self (x : EReal) : Ideal.cmp .une x x = 0#1 := by
  unfold Ideal.cmp
  simp

/-- Making every zero a positive zero changes no extended real. -/
theorem select_zero {x : EReal} : Scalar.select (Ideal.cmp .oeq x (Ideal.ofBits .f32 0x00000000#32)) (Ideal.ofBits .f32 0x00000000#32) x = x := by
  rw [select_iff (cmp_oeq _ _)]
  split
  · rename_i h; exact h.symm
  · rfl

/-- The precondition's comparator is the order of the extended reals. -/
theorem comparator_pre (l r : EReal) : (Cert.Pre_separated.comparator_f32_d1 (F := Ideal) l r == 1#1) = decide (l < r) := by
  show (Ideal.cmp .olt (Scalar.select (Ideal.cmp .une l l) _ (Scalar.select (Ideal.cmp .oeq l (Ideal.ofBits .f32 0x00000000#32)) (Ideal.ofBits .f32 0x00000000#32) l))
    (Scalar.select (Ideal.cmp .une r r) _ (Scalar.select (Ideal.cmp .oeq r (Ideal.ofBits .f32 0x00000000#32)) (Ideal.ofBits .f32 0x00000000#32) r)) == 1#1) = _
  rw [une_self, une_self, select_zero, select_zero]
  rw [Bool.eq_iff_iff, beq_iff_eq, decide_eq_true_iff]
  exact cmp_olt l r

/-- The reference's comparator is the order of the extended reals. -/
theorem comparator_ref (l r : EReal × BitVec 32) :
    (Cert.ReferenceIdeal.comparator_f32_i32_d1 (F := Ideal) l r == 1#1) = decide (l.1 < r.1) := by
  show (Ideal.cmp .olt (Scalar.select (Ideal.cmp .une l.1 l.1) _ (Scalar.select (Ideal.cmp .oeq l.1 (Ideal.ofBits .f32 0x00000000#32)) (Ideal.ofBits .f32 0x00000000#32) l.1))
    (Scalar.select (Ideal.cmp .une r.1 r.1) _ (Scalar.select (Ideal.cmp .oeq r.1 (Ideal.ofBits .f32 0x00000000#32)) (Ideal.ofBits .f32 0x00000000#32) r.1)) == 1#1) = _
  rw [une_self, une_self, select_zero, select_zero]
  rw [Bool.eq_iff_iff, beq_iff_eq, decide_eq_true_iff]
  exact cmp_olt l.1 r.1

/-- A place with its column replaced. -/
theorem along_ix2 {m n : ℕ} (r : Fin m) (k k' : Fin n) :
    Shape.Idx.along (s := ⟨2, ![m, n]⟩) (ix2 r k) (1 : Fin 2) k' = ix2 r k' := by
  funext a
  match a with
  | ⟨0, _⟩ => rfl
  | ⟨1, _⟩ => rfl

/-- A sort by a comparator that reads the entries downwards. -/
theorem place_of {n : ℕ} (f : Fin n → EReal) (B : Fin n → Fin n → Bool) (hB : ∀ a b, B a b = decide (f b < f a)) (k : Fin n) :
    sortedFrom B k = place f k := by
  have : B = fun a b => decide (f b < f a) := funext fun a => funext fun b => hB a b
  rw [this]; rfl

/-- An array read along its row. -/
theorem at_along {m n : ℕ} {α : Type} (x : (⟨2, ![m, n]⟩ : Shape).Idx → α) (r : Fin m) (k k' : Fin n) :
    x (Shape.Idx.along (s := ⟨2, ![m, n]⟩) (ix2 r k) (1 : Fin 2) k') = x (ix2 r k') :=
  congrArg x (along_ix2 r k k')

/-- Comparing negatives turns the order round. -/
theorem decide_lt_neg {a b x y : EReal} (ha : a = -x) (hb : b = -y) : decide (a < b) = decide (y < x) := by
  subst ha hb
  simp only [EReal.neg_lt_neg_iff]

/-- Comparing equals of two numbers compares the numbers. -/
theorem decide_lt_of {a b x y : EReal} (ha : a = x) (hb : b = y) : decide (a < b) = decide (x < y) := by
  subst ha hb
  rfl

/-- One array sorted along its rows, read at a place. -/
theorem sort_row {m n : ℕ} (cmp : EReal → EReal → BitVec 1) (hc : ∀ l r, (cmp l r == 1#1) = decide (l < r))
    (x : (⟨2, ![m, n]⟩ : Shape).Idx → EReal) (f : Fin n → EReal) (r : Fin m) (hf : ∀ k, x (ix2 r k) = -f k) (k : Fin n) :
    Host.sort ⟨2, ![m, n]⟩ 1 cmp x (ix2 r k) = -f (place f k) := by
  refine (at_along x r k _).trans ((congrArg (fun q => x (ix2 r q)) (place_of f _ (fun a b => ?_) k)).trans (hf _))
  exact (hc _ _).trans (decide_lt_neg ((at_along x r k a).trans (hf a)) ((at_along x r k b).trans (hf b)))

/-- A second array carried along by a sort of the rows, read at a place. -/
theorem sort2_row {m n : ℕ} {β : Type} (cmp : EReal × β → EReal × β → BitVec 1) (hc : ∀ l r, (cmp l r == 1#1) = decide (l.1 < r.1))
    (x : (⟨2, ![m, n]⟩ : Shape).Idx → EReal) (y : (⟨2, ![m, n]⟩ : Shape).Idx → β) (f : Fin n → EReal) (r : Fin m) (hf : ∀ k, x (ix2 r k) = -f k) (k : Fin n) :
    (Host.sort2 ⟨2, ![m, n]⟩ 1 cmp x y).2 (ix2 r k) = y (ix2 r (place f k)) := by
  refine (at_along y r k _).trans (congrArg (fun q => y (ix2 r q)) (place_of f _ (fun a b => ?_) k))
  exact (hc _ _).trans (decide_lt_neg ((at_along x r k a).trans (hf a)) ((at_along x r k b).trans (hf b)))

/-- The values of a sort of the rows by "greater", read at a place. -/
theorem sort2_row_fst {m n : ℕ} {β : Type} (cmp : EReal × β → EReal × β → BitVec 1) (hc : ∀ l r, (cmp l r == 1#1) = decide (r.1 < l.1))
    (x : (⟨2, ![m, n]⟩ : Shape).Idx → EReal) (y : (⟨2, ![m, n]⟩ : Shape).Idx → β) (f : Fin n → EReal) (r : Fin m) (hf : ∀ k, x (ix2 r k) = f k) (k : Fin n) :
    (Host.sort2 ⟨2, ![m, n]⟩ 1 cmp x y).1 (ix2 r k) = f (place f k) := by
  refine (at_along x r k _).trans ((congrArg (fun q => x (ix2 r q)) (place_of f _ (fun a b => ?_) k)).trans (hf _))
  exact (hc _ _).trans (decide_lt_of ((at_along x r k b).trans (hf b)) ((at_along x r k a).trans (hf a)))

end Cert.K

end
-- ==== Proof.Weights.lean ====
/- A row of logits and its real weights: the row in its order, what of it the two rules keep, and the facts of the
   order that the equation of the two programs rests on. -/
module

public import proofs.«01_k».proof.Proof.Row
public import proofs.«01_k».proof.Proof.Sorted

@[expose] public section

noncomputable section

namespace Cert.K

open Idealize.ShloMosaic

variable {n : ℕ}

/-! ### Reals among the extended reals -/

/-- A sum of reals, as an extended real. -/
theorem sum_coe {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A real or zero, as an extended real. -/
theorem ite_coe (p : Prop) [Decidable p] (a : ℝ) : (if p then ((a : ℝ) : EReal) else 0) = ((if p then a else 0 : ℝ) : EReal) := by
  split <;> simp

/-- The word of the share. -/
theorem ofBits_share : Ideal.ofBits .f32 0x3F733333#32 = ((share : ℝ) : EReal) := by
  rw [ofBits_fl _ (by decide)]
  unfold fl share
  norm_num

/-- The word of the float epsilon. -/
theorem ofBits_eps : Ideal.ofBits .f32 0x34000000#32 = (((2 : ℝ) ^ (-23 : ℤ) : ℝ) : EReal) := by
  rw [ofBits_fl _ (by decide)]
  unfold fl
  norm_num

/-- A quotient of reals, as an extended real. -/
theorem div_coe (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-! ### The row in its order -/

/-- The real weight of a column. -/
def wt (x : Fin n → EReal) (j : Fin n) : ℝ := (weight x j).toReal

/-- The weights from the largest down. -/
def down (x : Fin n → EReal) (i : Fin n) : ℝ := wt x (place x i)

/-- Whether the place `i` of the order is kept: by the share of the mass before it, and by the 64th logit. -/
def keptAt (h63 : 63 < n) (x : Fin n → EReal) (i : Fin n) : Prop :=
  before (down x) i ≤ share * ∑ k, down x k ∧ x (place x ⟨63, h63⟩) ≤ x (place x i)

/-- Whether a column is kept. -/
def keeps (h63 : 63 < n) (x : Fin n → EReal) (j : Fin n) : Prop := keptAt h63 x ((placeEquiv x).symm j)

/-- The column at the place of a column. -/
theorem place_symm (x : Fin n → EReal) (j : Fin n) : place x ((placeEquiv x).symm j) = j := (placeEquiv x).apply_symm_apply j

/-- The place of the column at a place. -/
theorem symm_place (x : Fin n → EReal) (i : Fin n) : (placeEquiv x).symm (place x i) = i := (placeEquiv x).symm_apply_apply i

/-- The column at a place is kept if the place is. -/
theorem keeps_place (h63 : 63 < n) (x : Fin n → EReal) (i : Fin n) : keeps h63 x (place x i) ↔ keptAt h63 x i := by
  unfold keeps
  rw [symm_place]

/-- A sum over the columns is the sum over the places. -/
theorem sum_place {M : Type} [AddCommMonoid M] (x : Fin n → EReal) (F : Fin n → M) : ∑ i, F (place x i) = ∑ j, F j :=
  (placeEquiv x).sum_comp F

/-- A row whose largest logit is finite. -/
structure Topped (h63 : 63 < n) (x : Fin n → EReal) : Prop where
  lo : ⊥ < x (place x ⟨0, by omega⟩)
  hi : x (place x ⟨0, by omega⟩) < ⊤

/-- What the precondition says of a row: its largest logit is finite, and the last kept logit is a float epsilon
    above the first dropped one. -/
structure Fine (h63 : 63 < n) (x : Fin n → EReal) : Prop extends Topped h63 x where
  gap : ∀ i j : Fin n, j.val = i.val + 1 → keptAt h63 x i → ¬ keptAt h63 x j →
    (((2 : ℝ) ^ (-23 : ℤ) : ℝ) : EReal) ≤ x (place x i) - x (place x j)

/-- The largest entry is at the first place. -/
theorem top_place (h0 : 0 < n) (x : Fin n → EReal) : top x = x (place x ⟨0, h0⟩) := by
  refine le_antisymm (Finset.sup_le fun j _ => ?_) (Finset.le_sup (Finset.mem_univ _))
  have := place_anti x (i := ⟨0, h0⟩) (j := (placeEquiv x).symm j) (Fin.mk_le_mk.2 (Nat.zero_le _))
  rwa [place_symm] at this

/-- The order does not change the largest entry. -/
theorem top_comp (x : Fin n → EReal) : top (fun k => x (place x k)) = top x := by
  refine le_antisymm (Finset.sup_le fun j _ => Finset.le_sup (f := x) (Finset.mem_univ _)) (Finset.sup_le fun j _ => ?_)
  have := Finset.le_sup (f := fun k => x (place x k)) (Finset.mem_univ ((placeEquiv x).symm j))
  rwa [place_symm] at this

variable {h63 : 63 < n} {x : Fin n → EReal}

/-- The row is not empty. -/
theorem Topped.h0 (_ : Topped h63 x) : 0 < n := by omega

/-- The largest logit is real. -/
theorem Topped.real (h : Topped h63 x) : ∃ μ : ℝ, top x = (μ : EReal) := by
  rw [top_place h.h0]
  have h1 := h.lo
  have h2 := h.hi
  generalize x (place x ⟨0, _⟩) = M at *
  induction M with
  | bot => exact absurd h1 (lt_irrefl _)
  | top => exact absurd h2 (lt_irrefl _)
  | coe μ => exact ⟨μ, rfl⟩

/-- No entry is above the largest. -/
theorem le_top_row (x : Fin n → EReal) (j : Fin n) : x j ≤ top x := Finset.le_sup (Finset.mem_univ j)

/-- A column's logit: minus infinity with weight zero, or a real below the largest with its exponential. -/
theorem Topped.cases (_ : Topped h63 x) {μ : ℝ} (hμ : top x = (μ : EReal)) (j : Fin n) :
    (x j = ⊥ ∧ weight x j = 0) ∨ ∃ a : ℝ, x j = (a : EReal) ∧ a ≤ μ ∧ weight x j = ((Real.exp (a - μ) : ℝ) : EReal) := by
  have hle := le_top_row x j
  unfold weight
  rw [hμ] at hle ⊢
  generalize x j = v at *
  induction v with
  | bot => exact Or.inl ⟨rfl, by rw [EReal.bot_sub]; rfl⟩
  | top => exact absurd (top_le_iff.1 hle) (EReal.coe_ne_top _)
  | coe a => exact Or.inr ⟨a, rfl, by exact_mod_cast hle, by rw [← EReal.coe_sub]; rfl⟩

/-- The extended weight is the real one. -/
theorem Topped.weight_coe (h : Topped h63 x) (j : Fin n) : weight x j = ((wt x j : ℝ) : EReal) := by
  obtain ⟨μ, hμ⟩ := h.real
  unfold wt
  rcases h.cases hμ j with ⟨_, e⟩ | ⟨a, _, _, e⟩ <;> rw [e]
  · rfl
  · rw [EReal.toReal_coe]

/-- A weight is not negative. -/
theorem Topped.wt_nonneg (h : Topped h63 x) (j : Fin n) : 0 ≤ wt x j := by
  obtain ⟨μ, hμ⟩ := h.real
  unfold wt
  rcases h.cases hμ j with ⟨_, e⟩ | ⟨a, _, _, e⟩ <;> rw [e]
  · exact le_rfl
  · rw [EReal.toReal_coe]
    exact (Real.exp_pos _).le

/-- A larger logit has the larger weight. -/
theorem Fine.wt_mono (h : Fine h63 x) {i j : Fin n} (hij : x i ≤ x j) : wt x i ≤ wt x j := by
  obtain ⟨μ, hμ⟩ := h.real
  have hn := h.wt_nonneg j
  rcases h.cases hμ i with ⟨_, e⟩ | ⟨a, e1, _, e⟩
  · unfold wt at *
    rw [e]
    exact hn
  · rcases h.cases hμ j with ⟨e', _⟩ | ⟨b, e1', _, e'⟩
    · rw [e', e1] at hij
      exact absurd (le_bot_iff.1 hij) (EReal.coe_ne_bot _)
    · unfold wt
      rw [e, e', EReal.toReal_coe, EReal.toReal_coe]
      rw [e1, e1'] at hij
      exact Real.exp_le_exp.2 (sub_le_sub_right (by exact_mod_cast hij) _)

/-- The weight is one exactly at the largest logit. -/
theorem Fine.wt_one (h : Fine h63 x) (j : Fin n) : wt x j = 1 ↔ x j = top x := by
  obtain ⟨μ, hμ⟩ := h.real
  unfold wt
  rcases h.cases hμ j with ⟨e1, e⟩ | ⟨a, e1, _, e⟩ <;> rw [e, e1, hμ]
  · exact ⟨fun h => absurd h (by norm_num), fun h => absurd h.symm (EReal.coe_ne_bot _)⟩
  · rw [EReal.toReal_coe, Real.exp_eq_one_iff, sub_eq_zero, EReal.coe_eq_coe_iff]

/-- A weight is at most one. -/
theorem Fine.wt_le (h : Fine h63 x) (j : Fin n) : wt x j ≤ 1 := by
  have h1 : wt x (place x ⟨0, h.h0⟩) = 1 := (h.wt_one _).2 (top_place h.h0 x).symm
  rw [← h1]
  refine h.wt_mono ?_
  rw [← top_place h.h0 x]
  exact le_top_row x j

/-- The mass before a place grows along the order. -/
theorem before_mono {g : Fin n → ℝ} (hg : ∀ i, 0 ≤ g i) {i j : Fin n} (hij : i ≤ j) : before g i ≤ before g j := by
  refine Finset.sum_le_sum fun k _ => ?_
  by_cases hk : k < i
  · rw [if_pos hk, if_pos (hk.trans_le hij)]
  · rw [if_neg hk]
    split
    · exact hg k
    · exact le_rfl

/-- Nothing is before the first place. -/
theorem before_zero (g : Fin n → ℝ) (h0 : 0 < n) : before g ⟨0, h0⟩ = 0 :=
  Finset.sum_eq_zero fun k _ => if_neg (by rw [Fin.lt_def]; exact Nat.not_lt_zero _)

/-- The share of the mass is not negative. -/
theorem Fine.mass_nonneg (h : Fine h63 x) : 0 ≤ share * ∑ k, down x k :=
  mul_nonneg (by unfold share; norm_num) (Finset.sum_nonneg fun _ _ => h.wt_nonneg _)

/-- The sum up to a place is the sum before the next. -/
theorem before_succ (g : Fin n → ℝ) {q i : Fin n} (hi : i.val = q.val + 1) : (∑ k, if k ≤ q then g k else 0) = before g i := by
  refine Finset.sum_congr rfl fun k _ => ?_
  have : k ≤ q ↔ k < i := by rw [Fin.le_def, Fin.lt_def]; omega
  simp only [this]

/-- A row that is fine is in order. -/
theorem Fine.ordered (h : Fine h63 x) (hn : n ≤ 100000) : Ordered (down x) (keptAt h63 x) h63 where
  size := hn
  anti := fun _ _ hij => h.wt_mono (place_anti x hij)
  first := (h.wt_one _).2 (top_place h.h0 x).symm
  nonneg := fun _ => h.wt_nonneg _
  kept0 := ⟨by rw [before_zero _ h.h0]; exact h.mass_nonneg, place_anti x (Fin.mk_le_mk.2 (Nat.zero_le _))⟩
  kept := fun _ hi => ⟨hi.1, h.wt_mono hi.2⟩
  dropped := fun i hi => by
    rcases not_and_or.1 hi with hi | hi
    · exact Or.inl (not_le.1 hi)
    · exact Or.inr (not_le.1 fun hle => hi (place_anti x (Fin.le_def.2 hle)))
  pre := fun i j hij hj => ⟨(before_mono (fun _ => h.wt_nonneg _) hij).trans hj.1, hj.2.trans (place_anti x hij)⟩
  gap := fun i j hij hi hj => by
    have hg := h.gap i j hij hi hj
    obtain ⟨μ, hμ⟩ := h.real
    show wt x (place x j) ≤ wt x (place x i) * _
    have hp := h.wt_nonneg (place x i)
    rcases h.cases hμ (place x j) with ⟨_, e⟩ | ⟨b, e1', _, e'⟩
    · unfold wt at *
      rw [e]
      exact mul_nonneg hp (Real.exp_pos _).le
    · rcases h.cases hμ (place x i) with ⟨e1, _⟩ | ⟨a, e1, _, e⟩
      · rw [e1, EReal.bot_sub] at hg
        exact absurd (le_bot_iff.1 hg) (EReal.coe_ne_bot _)
      · rw [e1, e1', ← EReal.coe_sub, EReal.coe_le_coe_iff] at hg
        unfold wt
        rw [e, e', EReal.toReal_coe, EReal.toReal_coe, ← Real.exp_add]
        exact Real.exp_le_exp.2 (by linarith)

/-- Every column that holds the largest logit is kept. -/
theorem Fine.keeps_top (h : Fine h63 x) (hn : n ≤ 100000) {j : Fin n} (hj : x j = top x) : keeps h63 x j := by
  have o := h.ordered hn
  by_contra hk
  obtain ⟨a, b, hab, hbi, ha, hb⟩ := o.last hk
  have hgap := o.gap a b hab ha hb
  have hib : down x ((placeEquiv x).symm j) ≤ down x b := o.anti hbi
  have h1 : down x ((placeEquiv x).symm j) = 1 := by
    unfold down
    rw [place_symm]
    exact (h.wt_one j).2 hj
  have ha1 : down x a ≤ 1 := h.wt_le _
  have ha0 : 0 ≤ down x a := h.wt_nonneg _
  have he : Real.exp (-(2 : ℝ) ^ (-23 : ℤ)) < 1 := lt_of_lt_of_eq (Real.exp_lt_exp.2 (show -(2 : ℝ) ^ (-23 : ℤ) < 0 by norm_num)) Real.exp_zero
  have hp := Real.exp_pos (-(2 : ℝ) ^ (-23 : ℤ))
  nlinarith

end Cert.K

end
-- ==== Proof.HostOps.lean ====
/- The host operations of the reference and the precondition, read at a place of a row, at any sizes. -/
module

public import proofs.«01_k».proof.Proof.Sorted
public import Idealize.ShloMosaic.Lib.Routing.OpsOne
public import Idealize.ShloMosaic.Lib.IdealHost
public import Idealize.ShloMosaic.Lib.Pipeline.Value

@[expose] public section

noncomputable section

namespace Cert.K

open Idealize.ShloMosaic Idealize.ShloMosaic.ValueIdx Idealize.SL.Sem

variable {m n : ℕ} {α : Type}

/-- A slice along the rows. -/
theorem slice_row {p : ℕ} (o : ℕ) (x : (⟨2, ![m, n]⟩ : Shape).Idx → α) (h : (⟨2, ![m, n]⟩ : Shape).Slices ![0, o] ⟨2, ![m, p]⟩)
    (r : Fin m) (k : Fin p) (k' : Fin n) (hk : k'.val = o + k.val) :
    extractStridedSlice ⟨2, ![m, p]⟩ ![0, o] x h (ValueIdx.ix2 r k) = x (ValueIdx.ix2 r k') :=
  extractStridedSlice_apply _ x h _ _ fun a => by
    match a with
    | ⟨0, _⟩ => exact (Nat.zero_add r.val).symm
    | ⟨1, _⟩ => exact hk

/-- A column spread along the rows. -/
theorem spreadH_row (x : (⟨2, ![m, 1]⟩ : Shape).Idx → α)
    (h : (⟨2, ![m, 1]⟩ : Shape).BroadcastsInDim ⟨2, ![m, n]⟩ (![0, 1] : Fin 2 → Fin 2)) (r : Fin m) (k : Fin n) :
    broadcastInDim ⟨2, ![m, n]⟩ ![0, 1] h x (ValueIdx.ix2 r k) = x (ValueIdx.ix2 r 0) :=
  broadcastInDim_apply _ h x _ _ fun a => by
    match a with
    | ⟨0, _⟩ =>
      show r.val = if m = 1 then 0 else r.val
      split
      · have := r.isLt; omega
      · rfl
    | ⟨1, _⟩ => exact (if_pos rfl).symm

/-- A vector as a column. -/
theorem col_row (x : (⟨1, ![m]⟩ : Shape).Idx → α)
    (h : (⟨1, ![m]⟩ : Shape).BroadcastsInDim ⟨2, ![m, 1]⟩ (![0] : Fin 1 → Fin 2)) (r : Fin m) (u : Fin 1) :
    broadcastInDim ⟨2, ![m, 1]⟩ ![0] h x (ValueIdx.ix2 r u) = x (ValueIdx.ix1 r) :=
  broadcastInDim_apply _ h x _ _ fun a => by
    match a with
    | ⟨0, _⟩ =>
      show r.val = if m = 1 then 0 else r.val
      split
      · have := r.isLt; omega
      · rfl

/-- A matrix as a matrix of one-entry vectors. -/
theorem unit_row (x : (⟨2, ![m, n]⟩ : Shape).Idx → α)
    (h : (⟨2, ![m, n]⟩ : Shape).BroadcastsInDim ⟨3, ![m, n, 1]⟩ (![0, 1] : Fin 2 → Fin 3)) (r : Fin m) (k : Fin n) (u : Fin 1) :
    broadcastInDim ⟨3, ![m, n, 1]⟩ ![0, 1] h x (ValueIdx.ix3 r k u) = x (ValueIdx.ix2 r k) :=
  broadcastInDim_apply _ h x _ _ fun a => by
    match a with
    | ⟨0, _⟩ =>
      show r.val = if m = 1 then 0 else r.val
      split
      · have := r.isLt; omega
      · rfl
    | ⟨1, _⟩ =>
      show k.val = if n = 1 then 0 else k.val
      split
      · have := k.isLt; omega
      · rfl

/-- A column before the rest of a row: the first entry. -/
theorem concat_row_zero {p : ℕ} (a : (⟨2, ![m, 1]⟩ : Shape).Idx → α) (b : (⟨2, ![m, p]⟩ : Shape).Idx → α)
    (h : Shape.Concatenates [(⟨2, ![m, 1]⟩ : Shape), ⟨2, ![m, p]⟩] ⟨2, ![m, n]⟩ 1) (r : Fin m) (k : Fin n) (hk : k.val = 0) :
    concatenate ⟨2, ![m, n]⟩ 1 [⟨⟨2, ![m, 1]⟩, a⟩, ⟨⟨2, ![m, p]⟩, b⟩] h (ValueIdx.ix2 r k) = a (ValueIdx.ix2 r 0) :=
  concatenate_pair_apply_left (t := ⟨2, ![m, n]⟩) (s₁ := ⟨2, ![m, 1]⟩) (s₂ := ⟨2, ![m, p]⟩) 1 a b h (ValueIdx.ix2 r k) rfl (ValueIdx.ix2 r 0) fun c => by
    match c with
    | ⟨0, _⟩ => rfl
    | ⟨1, _⟩ => exact hk.symm

/-- A column before the rest of a row: a later entry. -/
theorem concat_row_succ {p : ℕ} (a : (⟨2, ![m, 1]⟩ : Shape).Idx → α) (b : (⟨2, ![m, p]⟩ : Shape).Idx → α)
    (h : Shape.Concatenates [(⟨2, ![m, 1]⟩ : Shape), ⟨2, ![m, p]⟩] ⟨2, ![m, n]⟩ 1) (r : Fin m) (k : Fin n) (q : Fin p) (hk : k.val = q.val + 1) :
    concatenate ⟨2, ![m, n]⟩ 1 [⟨⟨2, ![m, 1]⟩, a⟩, ⟨⟨2, ![m, p]⟩, b⟩] h (ValueIdx.ix2 r k) = b (ValueIdx.ix2 r q) :=
  concatenate_pair_apply_right (t := ⟨2, ![m, n]⟩) (s₁ := ⟨2, ![m, 1]⟩) (s₂ := ⟨2, ![m, p]⟩) 1 a b h (ValueIdx.ix2 r k) rfl rfl (ValueIdx.ix2 r q)
    (fun c hc => by
      match c with
      | ⟨0, _⟩ => rfl
      | ⟨1, _⟩ => exact (hc rfl).elim)
    (by show q.val + 1 = k.val; exact hk.symm)

/-- Two index words side by side: the first. -/
theorem pair_fst (a b : (⟨3, ![m, n, 1]⟩ : Shape).Idx → α)
    (h : Shape.Concatenates [(⟨3, ![m, n, 1]⟩ : Shape), ⟨3, ![m, n, 1]⟩] ⟨3, ![m, n, 2]⟩ 2) (r : Fin m) (k : Fin n) :
    concatenate ⟨3, ![m, n, 2]⟩ 2 [⟨⟨3, ![m, n, 1]⟩, a⟩, ⟨⟨3, ![m, n, 1]⟩, b⟩] h (ValueIdx.ix3 r k 0) = a (ValueIdx.ix3 r k 0) :=
  concatenate_pair_apply_left (t := ⟨3, ![m, n, 2]⟩) (s₁ := ⟨3, ![m, n, 1]⟩) (s₂ := ⟨3, ![m, n, 1]⟩) 2 a b h (ValueIdx.ix3 r k 0) rfl (ValueIdx.ix3 r k 0) fun c => by
    match c with
    | ⟨0, _⟩ => rfl
    | ⟨1, _⟩ => rfl
    | ⟨2, _⟩ => rfl

/-- Two index words side by side: the second. -/
theorem pair_snd (a b : (⟨3, ![m, n, 1]⟩ : Shape).Idx → α)
    (h : Shape.Concatenates [(⟨3, ![m, n, 1]⟩ : Shape), ⟨3, ![m, n, 1]⟩] ⟨3, ![m, n, 2]⟩ 2) (r : Fin m) (k : Fin n) :
    concatenate ⟨3, ![m, n, 2]⟩ 2 [⟨⟨3, ![m, n, 1]⟩, a⟩, ⟨⟨3, ![m, n, 1]⟩, b⟩] h (ValueIdx.ix3 r k 1) = b (ValueIdx.ix3 r k 0) :=
  concatenate_pair_apply_right (t := ⟨3, ![m, n, 2]⟩) (s₁ := ⟨3, ![m, n, 1]⟩) (s₂ := ⟨3, ![m, n, 1]⟩) 2 a b h (ValueIdx.ix3 r k 1) rfl rfl (ValueIdx.ix3 r k 0)
    (fun c hc => by
      match c with
      | ⟨0, _⟩ => rfl
      | ⟨1, _⟩ => rfl
      | ⟨2, _⟩ => exact (hc rfl).elim)
    rfl

/-! ### Reductions of a row -/

/-- A reduction of the columns that the host states is one that the blocks state. -/
theorem reduces_of (h : (⟨2, ![m, n]⟩ : Shape).ReducesTo [1] ⟨1, ![m]⟩) : (⟨2, ![m, n]⟩ : Shape).Reduces [1] ⟨1, ![m]⟩ :=
  ⟨rfl, Nat.one_pos, h.2⟩

/-- The host's row maximum. -/
theorem hostMax_row {u : Shape} (x : FVec Ideal ⟨2, ![m, n]⟩ .f32) (h : (⟨2, ![m, n]⟩ : Shape).ReducesTo [1] ⟨1, ![m]⟩)
    (hu : 0 < u.numel) (r : Fin m) :
    @Eq EReal (Host.reduce (α := Ideal .f32) FloatOps.maximumf x (constant u .f32 0xFF800000#32) h hu (ValueIdx.ix1 r)) (top fun k => x (ValueIdx.ix2 r k)) := by
  refine (Host.reduce_eq_fold_single (FloatOps.maximumf (F := Ideal) (φ := .f32)) x _ h (reduces_of h) hu (ValueIdx.ix1 r)).trans ?_
  have : (x ∘ (reduces_of h).lift (ValueIdx.ix1 r) : Fin n → EReal) = fun k => x (ValueIdx.ix2 r k) := funext fun k => congrArg x (lift_row (reduces_of h) r k)
  refine (congrArg (fun f : Fin n → EReal => (Finset.univ : Finset (Fin n)).fold max (Ideal.ofBits .f32 0xFF800000#32) f) this).trans ?_
  rw [ofBits_neg_inf]
  rfl

/-- The host's row sum. -/
theorem hostSum_row {u : Shape} (x : FVec Ideal ⟨2, ![m, n]⟩ .f32) (h : (⟨2, ![m, n]⟩ : Shape).ReducesTo [1] ⟨1, ![m]⟩)
    (hu : 0 < u.numel) (r : Fin m) :
    (Host.reduceAdd x (constant u .f32 0x00000000#32) h hu (ValueIdx.ix1 r) : EReal) = ∑ k, x (ValueIdx.ix2 r k) := by
  refine (Ideal.hostReduceAdd_single h (reduces_of h) x _ (ValueIdx.ix1 r)).trans ?_
  refine (congrArg₂ (· + ·) (Ideal.ofBits_zero_f32 : Ideal.ofBits .f32 0x00000000#32 = 0) (Finset.sum_congr rfl fun k _ => congrArg x (lift_row (reduces_of h) r k))).trans ?_
  exact zero_add _

/-- A conjunction over any axes of bits that are all set. -/
theorem hostAll_one {s t u : Shape} {axes : List (Fin s.rank)} (x : IVec s 1) (init : IVec u 1) (h : s.ReducesTo axes t) (hu : 0 < u.numel)
    (hx : ∀ i, x i = 1#1) (hi : init (Shape.Idx.first hu) = 1#1) (j : t.Idx) : Host.reduce IntOp.andi x init h hu j = 1#1 := by
  have : ∀ (l : List (Fin s.numel)) (a : BitVec 1), a = 1#1 → l.foldl (fun r n => IntOp.andi r (x (s.rowMajor.symm n))) a = 1#1 := by
    intro l
    induction l with
    | nil => exact fun a ha => ha
    | cons b l ih => exact fun a ha => ih _ ((andi_one _ _).2 ⟨ha, hx _⟩)
  exact this _ _ hi

/-! ### The column of the largest entry -/

/-- `q` is as good as `p` or better: a larger value, or the same and a column not after it. -/
def Beats (q p : EReal × BitVec 32) : Prop := p.1 < q.1 ∨ p.1 = q.1 ∧ q.2.toInt ≤ p.2.toInt

/-- A pair is as good as itself. -/
theorem Beats.refl (p : EReal × BitVec 32) : Beats p p := Or.inr ⟨rfl, le_rfl⟩

/-- Being at least as good is transitive. -/
theorem Beats.trans {p q r : EReal × BitVec 32} (h1 : Beats p q) (h2 : Beats q r) : Beats p r := by
  rcases h1 with h1 | ⟨h1, h1'⟩ <;> rcases h2 with h2 | ⟨h2, h2'⟩
  · exact Or.inl (h2.trans h1)
  · exact Or.inl (h2 ▸ h1)
  · exact Or.inl (h1 ▸ h2)
  · exact Or.inr ⟨h2.trans h1, h1'.trans h2'⟩

/-- The bit of a signed less-than. -/
theorem slt_one (a b : BitVec 32) : IntOp.cmpi .slt a b = 1#1 ↔ a.toInt < b.toInt := by
  show BitVec.ofBool (a.slt b) = 1#1 ↔ _
  rw [← BitVec.slt_iff_toInt_lt]
  cases a.slt b <;> simp

open Cert.ReferenceIdeal in
/-- One step of the search for the largest entry keeps the better of the two. -/
theorem argmax_step (a b : EReal × BitVec 32) :
    (reducer_argmax_f32_i32 (F := Ideal) a b = a ∨ reducer_argmax_f32_i32 (F := Ideal) a b = b)
      ∧ Beats (reducer_argmax_f32_i32 (F := Ideal) a b) a ∧ Beats (reducer_argmax_f32_i32 (F := Ideal) a b) b := by
  have e : reducer_argmax_f32_i32 (F := Ideal) a b
      = (Scalar.select (IntOp.ori (Ideal.cmp .ogt a.1 b.1) (Ideal.cmp .une a.1 a.1)) a.1 b.1,
        Scalar.select (IntOp.ori (IntOp.ori (Ideal.cmp .ogt a.1 b.1) (Ideal.cmp .une a.1 a.1)) (IntOp.andi (Ideal.cmp .oeq a.1 b.1) (IntOp.cmpi .slt a.2 b.2))) a.2 b.2) := rfl
  have c1 : IntOp.ori (Ideal.cmp .ogt a.1 b.1) (Ideal.cmp .une a.1 a.1) = 1#1 ↔ b.1 < a.1 := by
    rw [ori_one, cmp_ogt, une_self]; simp
  have c2 : IntOp.ori (IntOp.ori (Ideal.cmp .ogt a.1 b.1) (Ideal.cmp .une a.1 a.1)) (IntOp.andi (Ideal.cmp .oeq a.1 b.1) (IntOp.cmpi .slt a.2 b.2)) = 1#1
      ↔ b.1 < a.1 ∨ a.1 = b.1 ∧ a.2.toInt < b.2.toInt := by
    rw [ori_one, c1, andi_one, cmp_oeq, slt_one]
  rw [e]
  obtain ⟨a1, a2⟩ := a
  obtain ⟨b1, b2⟩ := b
  dsimp only at *
  by_cases h1 : b1 < a1
  · rw [select_iff c1, select_iff c2, if_pos h1, if_pos (Or.inl h1)]
    exact ⟨Or.inl rfl, Beats.refl _, Or.inl h1⟩
  · by_cases h2 : a1 = b1 ∧ a2.toInt < b2.toInt
    · rw [select_iff c1, select_iff c2, if_neg h1, if_pos (Or.inr h2), ← h2.1]
      exact ⟨Or.inl rfl, Beats.refl _, Or.inr ⟨rfl, h2.2.le⟩⟩
    · rw [select_iff c1, select_iff c2, if_neg h1, if_neg (not_or.2 ⟨h1, h2⟩)]
      refine ⟨Or.inr rfl, ?_, Beats.refl _⟩
      rcases (not_lt.1 h1).lt_or_eq with h | h
      · exact Or.inl h
      · exact Or.inr ⟨h, not_lt.1 fun h' => h2 ⟨h, h'⟩⟩

open Cert.ReferenceIdeal in
/-- The search over a list of pairs ends with the start or one of the pairs, and that is at least as good as all of them. -/
theorem argmax_fold (l : List (EReal × BitVec 32)) : ∀ a : EReal × BitVec 32,
    l.foldl (reducer_argmax_f32_i32 (F := Ideal)) a ∈ a :: l
      ∧ ∀ p ∈ a :: l, Beats (l.foldl (reducer_argmax_f32_i32 (F := Ideal)) a) p := by
  induction l with
  | nil =>
    intro a
    refine ⟨List.mem_singleton.2 rfl, fun p hp => ?_⟩
    rw [List.mem_singleton.1 hp]
    exact Beats.refl _
  | cons b l ih =>
    intro a
    obtain ⟨s1, s2, s3⟩ := argmax_step a b
    obtain ⟨i1, i2⟩ := ih (reducer_argmax_f32_i32 (F := Ideal) a b)
    rw [List.foldl_cons]
    constructor
    · rcases List.mem_cons.1 i1 with h | h
      · rw [h]
        rcases s1 with s1 | s1 <;> rw [s1] <;> simp
      · exact List.mem_cons_of_mem _ (List.mem_cons_of_mem _ h)
    · intro p hp
      have hh := i2 _ (List.mem_cons_self)
      rcases List.mem_cons.1 hp with rfl | hp
      · exact hh.trans s2
      · rcases List.mem_cons.1 hp with rfl | hp
        · exact hh.trans s3
        · exact i2 p (List.mem_cons_of_mem _ hp)

open Cert.ReferenceIdeal in
/-- The column that the search of a row ends with: the first of the largest entry's. -/
theorem argmax_row {u : Shape} (hn : 0 < n) (hn' : n ≤ 2 ^ 31) (x : FVec Ideal ⟨2, ![m, n]⟩ .f32) (h : (⟨2, ![m, n]⟩ : Shape).ReducesTo [1] ⟨1, ![m]⟩)
    (hu : 0 < u.numel) (r : Fin m) (hx : ∀ k, ⊥ < (x (ValueIdx.ix2 r k) : EReal)) :
    ∃ k : Fin n, (Host.argReduce (reducer_argmax_f32_i32 (F := Ideal)) x (iotaInDim ⟨2, ![m, n]⟩ 32 1) (constant u .f32 0xFF800000#32) (constantI u 32 0#32) h hu (ValueIdx.ix1 r)).2
        = BitVec.ofNat 32 k.val ∧ ∀ k' : Fin n, (x (ValueIdx.ix2 r k') : EReal) < x (ValueIdx.ix2 r k) ∨ (x (ValueIdx.ix2 r k') : EReal) = x (ValueIdx.ix2 r k) ∧ k ≤ k' := by
  rw [Ideal.argReduce_eq_reduce2, Host.reduce2_eq_foldl_fiber]
  have hmem : ∀ p : EReal × BitVec 32, p ∈ Host.argReduceFiber (x : _ → EReal) (iotaInDim ⟨2, ![m, n]⟩ 32 1) h (ValueIdx.ix1 r)
      ↔ ∃ k : Fin n, p = (x (ValueIdx.ix2 r k), BitVec.ofNat 32 k.val) := by
    intro p
    unfold Host.argReduceFiber
    rw [List.mem_map]
    constructor
    · rintro ⟨q, hq, rfl⟩
      have hd : h.drop ((⟨2, ![m, n]⟩ : Shape).rowMajor.symm q) = ValueIdx.ix1 r := of_decide_eq_true (List.mem_filter.1 hq).2
      refine ⟨((⟨2, ![m, n]⟩ : Shape).rowMajor.symm q) 1, ?_⟩
      have : (⟨2, ![m, n]⟩ : Shape).rowMajor.symm q = ValueIdx.ix2 r (((⟨2, ![m, n]⟩ : Shape).rowMajor.symm q) 1) := by
        have hl := (reduces_of h).lift_drop ((⟨2, ![m, n]⟩ : Shape).rowMajor.symm q)
        rw [← Shape.ReducesTo.drop_eq_drop h, hd] at hl
        exact hl.symm.trans (lift_row _ _ _)
      exact Prod.ext (congrArg x this) rfl
    · rintro ⟨k, rfl⟩
      refine ⟨(⟨2, ![m, n]⟩ : Shape).rowMajor (ValueIdx.ix2 r k), List.mem_filter.2 ⟨List.mem_finRange _, decide_eq_true ?_⟩, ?_⟩
      · exact (congrArg h.drop (Equiv.symm_apply_apply _ _)).trans ((congrFun (Shape.ReducesTo.drop_eq_drop h (reduces_of h)) _).trans
          ((congrArg (reduces_of h).drop (lift_row (reduces_of h) r k).symm).trans ((reduces_of h).drop_lift _ _)))
      · rw [Equiv.symm_apply_apply]; rfl
  obtain ⟨h1, h2⟩ := argmax_fold (Host.argReduceFiber (x : _ → EReal) (iotaInDim ⟨2, ![m, n]⟩ 32 1) h (ValueIdx.ix1 r))
    ((constant (F := Ideal) u .f32 0xFF800000#32 : u.Idx → EReal) (Shape.Idx.first hu), (constantI u 32 0#32) (Shape.Idx.first hu))
  have hbot : ((constant (F := Ideal) u .f32 0xFF800000#32 : u.Idx → EReal) (Shape.Idx.first hu)) = ⊥ := ofBits_neg_inf
  have hin : ∀ k : Fin n, Beats _ (x (ValueIdx.ix2 r k), BitVec.ofNat 32 k.val) := fun k => h2 _ (List.mem_cons_of_mem _ ((hmem _).2 ⟨k, rfl⟩))
  rcases List.mem_cons.1 h1 with he | he
  · exfalso
    have := hin ⟨0, hn⟩
    rw [he, hbot] at this
    rcases this with h | ⟨h, _⟩
    · exact not_lt_bot h
    · have h' := hx ⟨0, hn⟩
      dsimp only at h
      rw [h] at h'
      exact lt_irrefl _ h'
  · obtain ⟨k, hk⟩ := (hmem _).1 he
    refine ⟨k, congrArg Prod.snd hk, fun k' => ?_⟩
    have hb := hin k'
    rw [hk] at hb
    rcases hb with hb | ⟨hb, hc⟩
    · exact Or.inl hb
    · refine Or.inr ⟨hb, ?_⟩
      dsimp only at hc
      have hi : ∀ q : Fin n, (BitVec.ofNat 32 q.val).toInt = q.val := fun q => StableHlo.Predicate.toInt_ofNat_small _ (lt_of_lt_of_le q.isLt hn')
      rw [hi, hi] at hc
      exact Fin.le_def.2 (by exact_mod_cast hc)

end Cert.K

end
-- ==== Proof.KernelRow.lean ====
/- What the kernel leaves of a row that is fine: the reciprocal of the kept mass, and the first column of the largest logit. -/
module

public import proofs.«01_k».proof.Proof.Weights
public import proofs.«01_k».proof.Proof.KernelArray
public import proofs.«01_k».proof.Proof.HostOps

@[expose] public section

noncomputable section

namespace Cert.K

open Idealize.ShloMosaic

variable {n : ℕ} {h63 : 63 < n} {x : Fin n → EReal}

open Classical in
/-- The mass of the kept columns. -/
def mass (h63 : 63 < n) (x : Fin n → EReal) : ℝ := ∑ j, if keeps h63 x j then wt x j else 0

/-- A threshold word's test, of the row in its order. -/
theorem Fine.test_iff (h : Fine h63 x) (w : BitVec 32) (hw : w.toNat ≤ oneW) : Test x w ↔ Enough (down x) (fl w.toNat) := by
  have hle : ∀ j, Ideal.ofBits .f32 w ≤ weight x j ↔ fl w.toNat ≤ wt x j := fun j => by
    rw [ofBits_fl w hw, h.weight_coe, EReal.coe_le_coe_iff]
  have h1 : (Finset.univ.filter fun k => Ideal.ofBits .f32 w ≤ weight x k).card = (Finset.univ.filter fun i => fl w.toNat ≤ down x i).card := by
    rw [Finset.card_filter, Finset.card_filter]
    simp only [hle]
    exact (sum_place x fun j => if fl w.toNat ≤ wt x j then 1 else 0).symm
  have h2 : ∑ k, weight x k = ((∑ i, down x i : ℝ) : EReal) := by
    rw [Finset.sum_congr rfl fun j _ => h.weight_coe j, sum_coe]
    exact congrArg _ (sum_place x (wt x)).symm
  have h3 : (∑ k, if Ideal.ofBits .f32 w ≤ weight x k then weight x k else 0) = ((∑ i, if fl w.toNat ≤ down x i then down x i else 0 : ℝ) : EReal) := by
    have : ∀ k, (if Ideal.ofBits .f32 w ≤ weight x k then weight x k else 0) = ((if fl w.toNat ≤ wt x k then wt x k else 0 : ℝ) : EReal) := fun k => by
      rw [h.weight_coe, ← ite_coe]
      simp only [ofBits_fl w hw, EReal.coe_le_coe_iff]
    rw [Finset.sum_congr rfl fun k _ => this k, sum_coe]
    exact congrArg _ (sum_place x fun j => if fl w.toNat ≤ wt x j then wt x j else 0).symm
  unfold Test Enough
  rw [h1, h2, h3, ofBits_share, ← EReal.coe_mul, EReal.coe_lt_coe_iff]

open Classical in
/-- The threshold that the bisection ends at keeps what the two rules keep. -/
theorem Fine.word_keeps (h : Fine h63 x) (hn : n ≤ 100000) (j : Fin n) : Ideal.ofBits .f32 (wordOf x) ≤ weight x j ↔ keeps h63 x j := by
  have o := h.ordered hn
  obtain ⟨b1, b2, b3⟩ := bisect (P := fun w => Enough (down x) (fl w)) (fun a b hab hb => hb.anti o.nonneg (fl_strictMono.monotone hab))
    (by rw [fl_zero]; exact enough_zero h63 o.nonneg) (fun w => decide (Test x w)) (fun w hw => by rw [decide_eq_true_iff]; exact h.test_iff w hw)
    (rangeOf x) rfl (fun k _ => rfl)
  have hk := o.kept_iff b1 b2 b3 ((placeEquiv x).symm j)
  unfold down at hk
  rw [place_symm] at hk
  unfold wordOf
  rw [ofBits_fl _ b1, h.weight_coe, EReal.coe_le_coe_iff]
  exact hk

open Classical in
/-- The kept mass is at least one: the largest logit's weight. -/
theorem Fine.one_le_mass (h : Fine h63 x) (hn : n ≤ 100000) : 1 ≤ mass h63 x := by
  have h1 : x (place x ⟨0, h.h0⟩) = top x := (top_place h.h0 x).symm
  have := Finset.single_le_sum (f := fun j => if keeps h63 x j then wt x j else 0) (fun j _ => by
    split
    · exact h.wt_nonneg j
    · exact le_rfl) (Finset.mem_univ (place x ⟨0, h.h0⟩))
  rw [if_pos (h.keeps_top hn h1), (h.wt_one _).2 h1] at this
  exact this

open Classical in
/-- The kept weights of a row, added up as extended reals. -/
theorem Fine.kept_sum (h : Fine h63 x) : (∑ j, if keeps h63 x j then weight x j else 0) = ((mass h63 x : ℝ) : EReal) := by
  unfold mass
  rw [← sum_coe]
  refine Finset.sum_congr rfl fun j _ => ?_
  rw [h.weight_coe, ite_coe]

open Classical in
/-- The kernel's confidence of a row. -/
theorem Fine.conf_eq (h : Fine h63 x) (hn : n ≤ 100000) : conf x (wordOf x) = ((1 / mass h63 x : ℝ) : EReal) := by
  have hm := h.one_le_mass hn
  rw [← div_coe _ _ (by linarith), EReal.coe_one]
  unfold conf
  refine congrArg (Ideal.div 1) (Eq.trans ?_ h.kept_sum)
  exact Finset.sum_congr rfl fun j _ => by
    by_cases hk : keeps h63 x j
    · rw [if_pos hk, if_pos ((h.word_keeps hn j).2 hk)]
    · rw [if_neg hk, if_neg fun hc => hk ((h.word_keeps hn j).1 hc)]

/-! ### The first column of the largest logit -/

/-- A fold of signed minima is the start or one of the words, and no more than any of them. -/
theorem minsi_fold {ι : Type} (s : Finset ι) (b : BitVec 32) (f : ι → BitVec 32) :
    (s.fold IntOp.minsi b f = b ∨ ∃ k ∈ s, s.fold IntOp.minsi b f = f k) ∧ ∀ k ∈ s, (s.fold IntOp.minsi b f).toInt ≤ (f k).toInt := by
  classical
  induction s using Finset.induction_on with
  | empty => exact ⟨Or.inl rfl, fun k hk => absurd hk (Finset.notMem_empty k)⟩
  | insert a s ha ih =>
    rw [Finset.fold_insert ha]
    obtain ⟨i1, i2⟩ := ih
    have hlt : ∀ p q : BitVec 32, p.slt q = true ↔ p.toInt < q.toInt := fun p q => BitVec.slt_iff_toInt_lt
    unfold IntOp.minsi
    by_cases hc : (f a).slt (s.fold IntOp.minsi b f) = true
    · have hc' := (hlt _ _).1 hc
      unfold IntOp.minsi at hc
      rw [if_pos hc]
      refine ⟨Or.inr ⟨a, Finset.mem_insert_self a s, rfl⟩, fun k hk => ?_⟩
      rcases Finset.mem_insert.1 hk with rfl | hk
      · exact le_rfl
      · exact hc'.le.trans (i2 k hk)
    · have hc' := not_lt.1 (mt (hlt _ _).2 hc)
      unfold IntOp.minsi at hc
      rw [if_neg hc]
      refine ⟨?_, fun k hk => ?_⟩
      · rcases i1 with i1 | ⟨k, hk, i1⟩
        · exact Or.inl i1
        · exact Or.inr ⟨k, Finset.mem_insert_of_mem hk, i1⟩
      · rcases Finset.mem_insert.1 hk with rfl | hk
        · exact hc'
        · exact i2 k hk

/-- The kernel's column is the first that holds the largest logit. -/
theorem firstTop_eq (hn : n ≤ 100000) (x : Fin n → EReal) (k : Fin n) (hk : x k = top x) (hmin : ∀ k', x k' = top x → k ≤ k') :
    firstTop x = BitVec.ofNat 32 k.val := by
  have hint : ∀ q : Fin n, (BitVec.ofNat 32 q.val).toInt = q.val := fun q => StableHlo.Predicate.toInt_ofNat_small _ (by have := q.isLt; omega)
  have hbig : (2147483647#32).toInt = 2147483647 := by decide
  obtain ⟨f1, f2⟩ := minsi_fold Finset.univ 2147483647#32 (fun k => if x k = top x then BitVec.ofNat 32 k.val else 2147483647#32)
  have hle := f2 k (Finset.mem_univ k)
  rw [if_pos hk, hint] at hle
  have hkn := k.isLt
  unfold firstTop
  rcases f1 with f1 | ⟨q, _, f1⟩
  · rw [f1, hbig] at hle
    omega
  · rw [f1] at hle ⊢
    by_cases hq : x q = top x
    · rw [if_pos hq] at hle ⊢
      rw [hint] at hle
      have := Fin.le_def.1 (hmin q hq)
      have : q.val = k.val := by omega
      rw [this]
    · rw [if_neg hq, hbig] at hle
      omega

end Cert.K

end
-- ==== Proof.RefMath.lean ====
/- What the reference makes of a row that is fine, in extended reals: the row with its tail masked, the 64th of that, the
   row with what is left, its weights, their quotients by the sum, the largest quotient and its first column. -/
module

public import proofs.«01_k».proof.Proof.KernelRow
public import Mathlib.Order.Interval.Finset.Fin

@[expose] public section

noncomputable section

namespace Cert.K

open Idealize.ShloMosaic

variable {n : ℕ} {h63 : 63 < n} {x : Fin n → EReal}

/-- The place `i` of the order has more than the share before it. -/
def shut (x : Fin n → EReal) (i : Fin n) : Prop := share * ∑ k, down x k < before (down x) i

open Classical in
/-- The row with the places that are shut masked. -/
def masked (x : Fin n → EReal) (j : Fin n) : EReal := if shut x ((placeEquiv x).symm j) then ⊥ else x j

open Classical in
/-- The masked row with what is below its 64th masked too. -/
def rest (h63 : 63 < n) (x : Fin n → EReal) (j : Fin n) : EReal :=
  if masked x j < masked x (place (masked x) ⟨63, h63⟩) then ⊥ else masked x j

open Classical in
/-- The weights of what is left. -/
def left (h63 : 63 < n) (x : Fin n → EReal) (j : Fin n) : EReal := if keeps h63 x j then weight x j else 0

open Classical in
theorem masked_place (x : Fin n → EReal) (i : Fin n) : masked x (place x i) = if shut x i then ⊥ else x (place x i) := by
  unfold masked
  rw [symm_place]

/-- After a shut place every place is shut. -/
theorem Fine.shut_mono (h : Fine h63 x) {i j : Fin n} (hij : i ≤ j) (hi : shut x i) : shut x j :=
  hi.trans_le (before_mono (fun _ => h.wt_nonneg _) hij)

/-- The order of the row orders the masked row as well. -/
theorem Fine.masked_anti (h : Fine h63 x) {i j : Fin n} (hij : i ≤ j) : masked x (place x j) ≤ masked x (place x i) := by
  rw [masked_place, masked_place]
  by_cases hj : shut x j
  · rw [if_pos hj]; exact bot_le
  · rw [if_neg hj, if_neg fun hi => hj (h.shut_mono hij hi)]
    exact place_anti x hij

/-- Two orders that both go down agree, in one direction, at every place. -/
theorem perm_le (y : Fin n → EReal) (σ τ : Fin n ≃ Fin n) (hσ : ∀ i j, i ≤ j → y (σ j) ≤ y (σ i)) (hτ : ∀ i j, i ≤ j → y (τ j) ≤ y (τ i)) (k : Fin n) :
    y (σ k) ≤ y (τ k) := by
  by_contra hlt
  rw [not_le] at hlt
  have hsub : (Finset.Iic k).map σ.toEmbedding ⊆ (Finset.Iio k).map τ.toEmbedding := fun i hi => by
    obtain ⟨a, ha, rfl⟩ := Finset.mem_map.1 hi
    refine Finset.mem_map.2 ⟨τ.symm (σ a), Finset.mem_Iio.2 ?_, τ.apply_symm_apply _⟩
    by_contra hk
    have h1 := hτ _ _ (not_lt.1 hk)
    rw [τ.apply_symm_apply] at h1
    exact absurd (hlt.trans_le (hσ _ _ (Finset.mem_Iic.1 ha))) (not_lt.2 h1)
  have := Finset.card_le_card hsub
  rw [Finset.card_map, Finset.card_map, Fin.card_Iic, Fin.card_Iio] at this
  omega

/-- A row read in two orders that both take it down is read the same. -/
theorem place_unique (y : Fin n → EReal) (σ : Fin n ≃ Fin n) (hσ : ∀ i j, i ≤ j → y (σ j) ≤ y (σ i)) (k : Fin n) :
    y (place y k) = y (σ k) :=
   le_antisymm (perm_le y (placeEquiv y) σ (fun _ _ hij => place_anti y hij) hσ k) (perm_le y σ (placeEquiv y) hσ (fun _ _ hij => place_anti y hij) k)

/-- The masked row's 64th. -/
theorem Fine.masked_63 (h : Fine h63 x) : masked x (place (masked x) ⟨63, h63⟩) = masked x (place x ⟨63, h63⟩) :=
  place_unique (masked x) (placeEquiv x) (fun _ _ hij => h.masked_anti hij) _

/-- A place is kept if it is not shut and its logit is not below the 64th. -/
theorem keptAt_iff (i : Fin n) : keptAt h63 x i ↔ ¬ shut x i ∧ x (place x ⟨63, h63⟩) ≤ x (place x i) := by
  unfold keptAt shut
  rw [not_lt]

open Classical in
/-- What is left of the row: what the two rules keep. -/
theorem Fine.rest_eq (h : Fine h63 x) (j : Fin n) : rest h63 x j = if keeps h63 x j then x j else ⊥ := by
  obtain ⟨i, rfl⟩ : ∃ i, place x i = j := ⟨_, place_symm x j⟩
  unfold rest
  rw [h.masked_63, masked_place, masked_place]
  simp only [keeps_place, keptAt_iff]
  by_cases hi : shut x i
  · rw [if_pos hi, if_neg (fun hc : ¬ shut x i ∧ _ => hc.1 hi), ite_self]
  · rw [if_neg hi]
    by_cases h6 : shut x ⟨63, h63⟩
    · have hlt : i ≤ ⟨63, h63⟩ := le_of_not_ge fun hge => hi (h.shut_mono hge h6)
      rw [if_pos h6, if_neg not_lt_bot, if_pos ⟨hi, place_anti x hlt⟩]
    · rw [if_neg h6]
      by_cases hlt : x (place x i) < x (place x ⟨63, h63⟩)
      · rw [if_pos hlt, if_neg fun hc => absurd hlt (not_lt.2 hc.2)]
      · rw [if_neg hlt, if_pos ⟨hi, not_lt.1 hlt⟩]

/-- The largest of what is left is the largest of all. -/
theorem Fine.top_rest (h : Fine h63 x) (hn : n ≤ 100000) : top (rest h63 x) = top x := by
  classical
  refine le_antisymm (Finset.sup_le fun j _ => ?_) ?_
  · rw [h.rest_eq]
    split
    · exact le_top_row x j
    · exact bot_le
  · have h1 : x (place x ⟨0, h.h0⟩) = top x := (top_place h.h0 x).symm
    have := le_top_row (rest h63 x) (place x ⟨0, h.h0⟩)
    rw [h.rest_eq, if_pos (h.keeps_top hn h1), h1] at this
    exact this

/-- The exponentials of what is left, relative to the largest. -/
theorem Fine.exp_rest (h : Fine h63 x) (hn : n ≤ 100000) (j : Fin n) :
    Ideal.exp (rest h63 x j - max ⊥ (top (rest h63 x))) = left h63 x j := by
  classical
  rw [h.top_rest hn, max_eq_right bot_le, h.rest_eq]
  unfold left
  by_cases hk : keeps h63 x j
  · rw [if_pos hk, if_pos hk]; rfl
  · rw [if_neg hk, if_neg hk, EReal.bot_sub]; rfl

open Classical in
theorem Fine.left_coe (h : Fine h63 x) (j : Fin n) : left h63 x j = ((if keeps h63 x j then wt x j else 0 : ℝ) : EReal) := by
  unfold left
  rw [h.weight_coe, ite_coe]

open Classical in
/-- The quotients by the sum. -/
theorem Fine.quot_coe (h : Fine h63 x) (hn : n ≤ 100000) (j : Fin n) :
    Ideal.div (left h63 x j) (∑ k, left h63 x k) = (((if keeps h63 x j then wt x j else 0) / mass h63 x : ℝ) : EReal) := by
  have hm := h.one_le_mass hn
  have hs : (∑ k, left h63 x k) = ((mass h63 x : ℝ) : EReal) := h.kept_sum
  rw [hs, h.left_coe, div_coe _ _ (by linarith)]

/-- A column's quotient is the largest exactly where the logit is. -/
theorem Fine.quot_le (h : Fine h63 x) (hn : n ≤ 100000) (j : Fin n) :
    Ideal.div (left h63 x j) (∑ k, left h63 x k) ≤ ((1 / mass h63 x : ℝ) : EReal)
      ∧ (Ideal.div (left h63 x j) (∑ k, left h63 x k) = ((1 / mass h63 x : ℝ) : EReal) ↔ x j = top x) := by
  classical
  have hm := h.one_le_mass hn
  rw [h.quot_coe hn, EReal.coe_le_coe_iff, EReal.coe_eq_coe_iff, div_le_div_iff_of_pos_right (by linarith), div_left_inj' (by linarith)]
  by_cases hk : keeps h63 x j
  · rw [if_pos hk]
    exact ⟨h.wt_le j, h.wt_one j⟩
  · rw [if_neg hk]
    exact ⟨zero_le_one, fun hc => absurd hc (by norm_num), fun hc => absurd (h.keeps_top hn hc) hk⟩

/-- The largest quotient. -/
theorem Fine.top_quot (h : Fine h63 x) (hn : n ≤ 100000) :
    top (fun j => Ideal.div (left h63 x j) (∑ k, left h63 x k)) = ((1 / mass h63 x : ℝ) : EReal) := by
  refine le_antisymm (Finset.sup_le fun j _ => (h.quot_le hn j).1) ?_
  rw [← (h.quot_le hn (place x ⟨0, h.h0⟩)).2.2 (top_place h.h0 x).symm]
  exact Finset.le_sup (f := fun j => Ideal.div (left h63 x j) (∑ k, left h63 x k)) (Finset.mem_univ _)

/-- The first column of the largest quotient is the first column of the largest logit. -/
theorem Fine.first_quot (h : Fine h63 x) (hn : n ≤ 100000) (q : Fin n → EReal) (hq : ∀ j, q j = Ideal.div (left h63 x j) (∑ k, left h63 x k)) (k : Fin n)
    (hk : ∀ k', q k' < q k ∨ q k' = q k ∧ k ≤ k') : firstTop x = BitVec.ofNat 32 k.val := by
  have h1 : x (place x ⟨0, h.h0⟩) = top x := (top_place h.h0 x).symm
  have e1 := (h.quot_le hn _).2.2 h1
  have ek : q k = ((1 / mass h63 x : ℝ) : EReal) := by
    have hle := (h.quot_le hn k).1
    rw [← hq] at hle e1
    rcases hk (place x ⟨0, h.h0⟩) with hc | ⟨hc, _⟩
    · rw [e1] at hc
      exact absurd hc (not_lt.2 hle)
    · rw [← hc, e1]
  refine firstTop_eq hn x k ((h.quot_le hn k).2.1 (by rw [← hq, ek])) fun k' hk' => ?_
  have e' := (h.quot_le hn k').2.2 hk'
  rw [← hq] at e'
  rcases hk k' with hc | ⟨_, hc⟩
  · rw [e', ek] at hc
    exact absurd hc (lt_irrefl _)
  · exact hc

end Cert.K

end
-- ==== Proof.HostRows.lean ====
/- The host's running sum, gather, scatter and top-k, read at a place of a row, at any sizes. -/
module

public import proofs.«01_k».proof.Proof.HostOps
public import Idealize.ShloMosaic.Lib.Routing.OpsPair
public import Idealize.ShloMosaic.Lib.Routing.OpsSet

@[expose] public section

noncomputable section

namespace Cert.K

open Idealize.ShloMosaic Idealize.ShloMosaic.ValueIdx Idealize.SL.Sem

variable {m n : ℕ} {α : Type}

/-! ### The running sum -/

/-- A fold that adds is the start plus the sum. -/
theorem foldl_sum {β : Type} (F : β → EReal) (l : List β) : ∀ v : EReal, l.foldl (fun a q => a + F q) v = v + (l.map F).sum := by
  induction l with
  | nil => exact fun v => (add_zero v).symm
  | cons b l ih => exact fun v => by rw [List.foldl_cons, ih, List.map_cons, List.sum_cons, add_assoc]

/-- A window that ends at place `i`, summed, is the sum up to place `i`. -/
theorem sum_window (N i : ℕ) (hi : i ≤ N) (G : ℕ → EReal) :
    (∑ q ∈ Finset.range (N + 1), if N ≤ i + q then G (i + q - N) else 0) = ∑ k ∈ Finset.range (N + 1), if k ≤ i then G k else 0 := by
  rw [← Finset.sum_filter, ← Finset.sum_filter]
  refine Finset.sum_nbij' (fun q => i + q - N) (fun k => k + N - i) ?_ ?_ ?_ ?_ ?_
  · intro q hq
    simp only [Finset.mem_filter, Finset.mem_range] at hq ⊢
    omega
  · intro q hq
    simp only [Finset.mem_filter, Finset.mem_range] at hq ⊢
    omega
  · intro q hq
    simp only [Finset.mem_filter, Finset.mem_range] at hq
    omega
  · intro q hq
    simp only [Finset.mem_filter, Finset.mem_range] at hq
    omega
  · exact fun _ _ => rfl

/-- A line has as many entries as it is long. -/
theorem numel_line (n : ℕ) : (⟨2, ![1, n]⟩ : Shape).numel = n := (Shape.numel_rank2 _).trans (Nat.one_mul n)

/-- The place of a line at a row-major position. -/
theorem symm_line (q : Fin (⟨2, ![1, n]⟩ : Shape).numel) : (⟨2, ![1, n]⟩ : Shape).rowMajor.symm q = ValueIdx.ix2 (0 : Fin 1) (q.cast (numel_line n)) := by
  have hq : q.val < n := (q.cast (numel_line n)).isLt
  refine (Routing.symm22 q (by rw [Nat.div_eq_of_lt hq]; exact Nat.one_pos) (by rw [Nat.mod_eq_of_lt hq]; exact hq)).trans ?_
  exact congrArg₂ ValueIdx.ix2 (Subsingleton.elim _ _) (Fin.ext (Nat.mod_eq_of_lt hq))

/-- The running sum along a row: the sum of the entries up to the place. -/
theorem cumsum_row {u : Shape} {N : ℕ} (x : FVec Ideal ⟨2, ![m, N + 1]⟩ .f32) (init : FVec Ideal u .f32) (hu : 0 < u.numel)
    (hinit : (init (Shape.Idx.first hu) : EReal) = 0)
    (h : (⟨2, ![m, N + 1]⟩ : Shape).ReduceWindows (![1, N + 1] : Fin 2 → Nat) ![1, 1] ![0, N] ![0, 0] ⟨2, ![m, N + 1]⟩) (r : Fin m) (i : Fin (N + 1)) :
    (Host.reduceWindowAdd ![1, N + 1] ![1, 1] ![0, N] ![0, 0] x init h hu (ValueIdx.ix2 r i) : EReal)
      = ∑ k : Fin (N + 1), if k ≤ i then (x (ValueIdx.ix2 r k) : EReal) else 0 := by
  let G : ℕ → EReal := fun k => if hk : k < N + 1 then x (ValueIdx.ix2 r ⟨k, hk⟩) else 0
  have hi := i.isLt
  refine (foldl_sum _ (List.finRange (⟨2, ![1, N + 1]⟩ : Shape).numel) _).trans ?_
  have hF : ∀ F : Fin (⟨2, ![1, N + 1]⟩ : Shape).numel → EReal, (∀ q, F q = if N ≤ i.val + q.val then G (i.val + q.val - N) else 0) →
      ((List.finRange (⟨2, ![1, N + 1]⟩ : Shape).numel).map F).sum = ∑ k : Fin (N + 1), if k ≤ i then (x (ValueIdx.ix2 r k) : EReal) else 0 := by
    intro F hF
    rw [← Fin.sum_univ_def, Finset.sum_congr rfl fun q _ => hF q,
      Fin.sum_univ_eq_sum_range (fun q : ℕ => if N ≤ i.val + q then G (i.val + q - N) else 0), numel_line, sum_window N i.val (by omega),
      ← Fin.sum_univ_eq_sum_range (fun k : ℕ => if k ≤ i.val then G k else 0)]
    refine Finset.sum_congr rfl fun k _ => ?_
    have : G k.val = x (ValueIdx.ix2 r k) := dif_pos k.isLt
    rw [this]
    rfl
  refine (congrArg₂ (· + ·) hinit (hF _ fun q => ?_)).trans (zero_add _)
  have hq : q.val < N + 1 := (q.cast (numel_line (N + 1))).isLt
  have hw0 : ((⟨2, ![1, N + 1]⟩ : Shape).rowMajor.symm q 0).val = 0 := by rw [symm_line]; rfl
  have hw1 : ((⟨2, ![1, N + 1]⟩ : Shape).rowMajor.symm q 1).val = q.val := by rw [symm_line]; rfl
  split
  · next hin =>
    have h1 := hin 1
    change N ≤ i.val * 1 + ((⟨2, ![1, N + 1]⟩ : Shape).rowMajor.symm q 1).val ∧ i.val * 1 + ((⟨2, ![1, N + 1]⟩ : Shape).rowMajor.symm q 1).val - N < N + 1 at h1
    rw [hw1] at h1
    rw [if_pos (by omega)]
    have hG : G (i.val + q.val - N) = x (ValueIdx.ix2 r ⟨i.val + q.val - N, by omega⟩) := dif_pos (by omega)
    rw [hG]
    refine congrArg x (funext fun a => Fin.ext ?_)
    match a with
    | ⟨0, _⟩ =>
      show r.val * 1 + ((⟨2, ![1, N + 1]⟩ : Shape).rowMajor.symm q 0).val - 0 = r.val
      rw [hw0]
      omega
    | ⟨1, _⟩ =>
      show i.val * 1 + ((⟨2, ![1, N + 1]⟩ : Shape).rowMajor.symm q 1).val - N = i.val + q.val - N
      rw [hw1, Nat.mul_one]
  · next hin =>
    rw [if_neg fun hle => hin fun a => by
      match a with
      | ⟨0, _⟩ =>
        show 0 ≤ r.val * 1 + ((⟨2, ![1, N + 1]⟩ : Shape).rowMajor.symm q 0).val ∧ r.val * 1 + ((⟨2, ![1, N + 1]⟩ : Shape).rowMajor.symm q 0).val - 0 < m
        rw [hw0]
        have := r.isLt
        omega
      | ⟨1, _⟩ =>
        show N ≤ i.val * 1 + ((⟨2, ![1, N + 1]⟩ : Shape).rowMajor.symm q 1).val ∧ i.val * 1 + ((⟨2, ![1, N + 1]⟩ : Shape).rowMajor.symm q 1).val - N < N + 1
        rw [hw1]
        omega]
    exact hinit

/-! ### The gather, the scatter and the top-k -/

/-- The dimensions of a gather that takes, in each row, the columns its indices name. -/
abbrev alongDims (m n : ℕ) (wf : GatherDims.WF ⟨2, ![m, n]⟩ ⟨3, ![m, n, 1]⟩ ⟨2, ![m, n]⟩ [] [1] [0] [1] [0] 2 ![1, 1]) :
    GatherDims ⟨2, ![m, n]⟩ ⟨3, ![m, n, 1]⟩ ⟨2, ![m, n]⟩ where
  offsetDims := []
  collapsedSliceDims := [1]
  operandBatchingDims := [0]
  startIndicesBatchingDims := [0]
  startIndexMap := [1]
  indexVectorDim := 2
  sliceSizes := ![1, 1]
  wf := wf

/-- That gather at a place: the entry of the row at the column named there. -/
theorem gather_row (wf : GatherDims.WF ⟨2, ![m, n]⟩ ⟨3, ![m, n, 1]⟩ ⟨2, ![m, n]⟩ [] [1] [0] [1] [0] 2 ![1, 1])
    (x : (⟨2, ![m, n]⟩ : Shape).Idx → α) (idx : IVec ⟨3, ![m, n, 1]⟩ 32) (r : Fin m) (k k' : Fin n)
    (hk : (idx (ValueIdx.ix3 r k 0)).toInt = k'.val) : Host.gather (alongDims m n wf) x idx (ValueIdx.ix2 r k) = x (ValueIdx.ix2 r k') := by
  unfold Host.gather
  refine congrArg x (funext fun a => Fin.ext ?_)
  show (alongDims m n wf).start (ValueIdx.ix2 r k) idx a + (alongDims m n wf).batchCoord (ValueIdx.ix2 r k) a
      + (alongDims m n wf).offCoord (ValueIdx.ix2 r k) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (alongDims m n wf).startIndexMap from List.mem_singleton.mpr rfl)]
    have hsi : (alongDims m n wf).siIdx (ValueIdx.ix2 r k) ⟨List.idxOf (1 : Fin 2) (alongDims m n wf).startIndexMap,
        List.idxOf_lt_length_iff.2 (List.mem_singleton.mpr rfl)⟩ = ValueIdx.ix3 r k 0 := by
      funext b; refine Fin.ext ?_
      match b with
      | ⟨0, _⟩ => rfl
      | ⟨1, _⟩ => rfl
      | ⟨2, _⟩ => rfl
    rw [hsi, hk]
    show min (Int.toNat (k'.val : ℤ)) (n - 1) = k'.val
    have := k'.isLt
    rw [Int.toNat_natCast]
    omega

/-- A scatter that sends each place of a row to the column a permutation names: at that column it leaves the place's update. -/
theorem scatter_row (d : ScatterDims ⟨2, ![m, n]⟩ ⟨3, ![m, n, 2]⟩ ⟨2, ![m, n]⟩) (hiw : d.insertedWindowDims = [0, 1])
    (hsd : d.scatterDimsToOperandDims = [0, 1]) (hivd : d.indexVectorDim = 2) (x : (⟨2, ![m, n]⟩ : Shape).Idx → α)
    (idx : IVec ⟨3, ![m, n, 2]⟩ 32) (upd : (⟨2, ![m, n]⟩ : Shape).Idx → α) (σ : Fin m → Fin n → Fin n) (hσ : ∀ a, Function.Injective (σ a))
    (h0 : ∀ a b, (idx (ValueIdx.ix3 a b 0)).toInt = a.val) (h1 : ∀ a b, (idx (ValueIdx.ix3 a b 1)).toInt = (σ a b).val) (r : Fin m) (k : Fin n) :
    Host.scatter d (fun _ b => b) x idx upd (ValueIdx.ix2 r (σ r k)) = upd (ValueIdx.ix2 r k) := by
  refine Routing.scatter_set_hit d x idx upd _ _ (fun k' hk' => ?_) (ValueIdx.ix2 r k)
    ((Routing.scatter_lands2 d hiw hsd hivd idx r k r (σ r k)).2 ⟨h0 r k, h1 r k⟩)
  obtain ⟨a, b, rfl⟩ : ∃ (a : Fin m) (b : Fin n), k' = ValueIdx.ix2 a b := ⟨k' 0, k' 1, eq_ix2 k'⟩
  obtain ⟨q0, q1⟩ := (Routing.scatter_lands2 d hiw hsd hivd idx a b r (σ r k)).1 hk'
  have e0 : a = r := Fin.ext (by exact_mod_cast (h0 a b).symm.trans q0)
  subst e0
  have e1 : b = k := hσ a (Fin.ext (by exact_mod_cast (h1 a b).symm.trans q1))
  rw [e1]

/-- The values of a top-k of a row: its largest entries in order. -/
theorem topK_row {p : ℕ} (x : FVec Ideal ⟨2, ![m, n]⟩ .f32) (h : (⟨2, ![m, n]⟩ : Shape).Slices (fun _ => 0) ⟨2, ![m, p]⟩) (f : Fin n → EReal) (r : Fin m)
    (hf : ∀ k, x (ValueIdx.ix2 r k) = f k) (k : Fin p) (k' : Fin n) (hk : k'.val = k.val) :
    ((Host.topK ⟨2, ![m, p]⟩ 1 (FloatOps.cmpfTotal (F := Ideal) (φ := .f32) .gt) x h).1 (ValueIdx.ix2 r k) : EReal) = f (place f k') := by
  unfold Host.topK
  dsimp only
  refine (extractStridedSlice_apply _ _ h (ValueIdx.ix2 r k) (ValueIdx.ix2 r k') fun a => by
    match a with
    | ⟨0, _⟩ => exact (Nat.zero_add r.val).symm
    | ⟨1, _⟩ => exact hk.trans (Nat.zero_add k.val).symm).trans ?_
  refine sort2_row_fst (m := m) (n := n) (fun l r => FloatOps.cmpfTotal (F := Ideal) (φ := .f32) .gt l.1 r.1) (fun l r => ?_) x _ f r hf k'
  show (Ideal.cmp .ogt l.1 r.1 == 1#1) = decide (r.1 < l.1)
  rw [Bool.eq_iff_iff, beq_iff_eq, cmp_ogt, decide_eq_true_iff]

/-! ### Small operations at a place -/

/-- A product, read at a place. -/
theorem mulf_at {s : Shape} (a b : FVec Ideal s .f32) (i : s.Idx) : (mulf a b i : EReal) = (a i : EReal) * (b i : EReal) := rfl

/-- A spread scalar, read at a place. -/
theorem scalar_at {s : Shape} (d : Fin 0 → Fin s.rank) (h : (⟨0, ![]⟩ : Shape).BroadcastsInDim s d) (w : BitVec 32) (i : s.Idx) :
    (broadcastInDim s d h (constant (F := Ideal) ⟨0, ![]⟩ .f32 w) i : EReal) = Ideal.ofBits .f32 w := rfl

/-- A comparison, read at a place. -/
theorem cmpf_at {s : Shape} (p : CmpFPredicate) (a b : FVec Ideal s .f32) (i : s.Idx) : cmpf p a b i = Ideal.cmp p (a i : EReal) (b i : EReal) := rfl

/-- A spread integer scalar, read at a place. -/
theorem scalarI_at {s t : Shape} {w : ℕ} (d : Fin s.rank → Fin t.rank) (h : s.BroadcastsInDim t d) (c : BitVec w) (i : t.Idx) :
    broadcastInDim t d h (constantI s w c) i = c := rfl

/-- A selection, read at a place. -/
theorem select_at {s : Shape} (c : IVec s 1) (a b : s.Idx → α) (i : s.Idx) : select c a b i = Scalar.select (c i) (a i) (b i) := rfl

/-- An integer sum, read at a place. -/
theorem addi_at {s : Shape} {w : ℕ} (a b : IVec s w) (i : s.Idx) : addi a b i = a i + b i := rfl

/-- An index that is not negative is not wrapped. -/
theorem wrap_at {s : Shape} (v z c : IVec s 32) (i : s.Idx) (hz : z i = 0#32) (hv : (v i).toNat < 2 ^ 31) :
    select (cmpi .slt v z) (addi v c) v i = v i := by
  rw [select_at, cmpi_at, hz]
  exact Routing.wrap_of_lt (v i) _ hv

/-- A matrix as a matrix of one-entry vectors, by its order of entries. -/
theorem unit_cast (x : (⟨2, ![m, n]⟩ : Shape).Idx → α) (h : (⟨2, ![m, n]⟩ : Shape).ShapeCasts ⟨3, ![m, n, 1]⟩) (i : Fin m) (j : Fin n) (u : Fin 1) :
    shapeCast ⟨3, ![m, n, 1]⟩ x h (ValueIdx.ix3 i j u) = x (ValueIdx.ix2 i j) :=
  shapeCast_apply x h _ _ (by
    have hu : u.val = 0 := by omega
    rw [Shape.rowMajor_val_three, Shape.rowMajor_val_two]
    show i.val * n + j.val = (i.val * n + j.val) * 1 + u.val
    rw [hu, Nat.mul_one, Nat.add_zero])

/-- A maximum, read at a place. -/
theorem maximumf_at {s : Shape} (a b : FVec Ideal s .f32) (i : s.Idx) : (maximumf a b i : EReal) = max (a i : EReal) (b i : EReal) := rfl

/-- An exponential, read at a place. -/
theorem hostExp_at {s : Shape} (a : FVec Ideal s .f32) (i : s.Idx) : (Host.exp a i : EReal) = Ideal.exp (a i) := rfl

/-- A difference, read at a place. -/
theorem subf_at {s : Shape} (a b : FVec Ideal s .f32) (i : s.Idx) : (subf a b i : EReal) = (a i : EReal) - (b i : EReal) := rfl

/-- A quotient, read at a place. -/
theorem hostDivf_at {s : Shape} (a b : FVec Ideal s .f32) (i : s.Idx) : (Host.divf a b i : EReal) = Ideal.div (a i) (b i) := rfl

/-- The exponentials of a row relative to its largest entry, as the host writes them. -/
theorem relExp_row (x : FVec Ideal ⟨2, ![m, n]⟩ .f32) (h1 : (⟨2, ![m, 1]⟩ : Shape).BroadcastsInDim ⟨2, ![m, n]⟩ (![0, 1] : Fin 2 → Fin 2))
    (h2 : (⟨1, ![m]⟩ : Shape).BroadcastsInDim ⟨2, ![m, 1]⟩ (![0] : Fin 1 → Fin 2)) (h3 : (⟨0, ![]⟩ : Shape).BroadcastsInDim ⟨1, ![m]⟩ (![] : Fin 0 → Fin 1))
    (h : (⟨2, ![m, n]⟩ : Shape).ReducesTo [1] ⟨1, ![m]⟩) (hu : 0 < (⟨0, ![]⟩ : Shape).numel) (f : Fin n → EReal) (r : Fin m) (hf : ∀ k, x (ValueIdx.ix2 r k) = f k) (k : Fin n) :
    (Host.exp (subf x (broadcastInDim ⟨2, ![m, n]⟩ ![0, 1] h1 (broadcastInDim ⟨2, ![m, 1]⟩ ![0] h2 (maximumf
      (broadcastInDim ⟨1, ![m]⟩ ![] h3 (constant (F := Ideal) ⟨0, ![]⟩ .f32 0xFF800000#32))
      (Host.reduce FloatOps.maximumf x (constant ⟨0, ![]⟩ .f32 0xFF800000#32) h hu))))) (ValueIdx.ix2 r k) : EReal) = Ideal.exp (f k - max ⊥ (top f)) := by
  have hf' : (fun k => x (ValueIdx.ix2 r k) : Fin n → EReal) = f := funext hf
  rw [hostExp_at, subf_at, spreadH_row, col_row, maximumf_at, scalar_at, ofBits_neg_inf, hf]
  exact congrArg (fun v : EReal => Ideal.exp (f k - max ⊥ v)) ((hostMax_row x h hu r).trans (congrArg top hf'))

/-- The quotients of a row by its sum, as the host writes them. -/
theorem quot_row (x : FVec Ideal ⟨2, ![m, n]⟩ .f32) (h1 : (⟨2, ![m, 1]⟩ : Shape).BroadcastsInDim ⟨2, ![m, n]⟩ (![0, 1] : Fin 2 → Fin 2))
    (h2 : (⟨1, ![m]⟩ : Shape).BroadcastsInDim ⟨2, ![m, 1]⟩ (![0] : Fin 1 → Fin 2))
    (h : (⟨2, ![m, n]⟩ : Shape).ReducesTo [1] ⟨1, ![m]⟩) (hu : 0 < (⟨0, ![]⟩ : Shape).numel) (f : Fin n → EReal) (r : Fin m) (hf : ∀ k, x (ValueIdx.ix2 r k) = f k) (k : Fin n) :
    (Host.divf x (broadcastInDim ⟨2, ![m, n]⟩ ![0, 1] h1 (broadcastInDim ⟨2, ![m, 1]⟩ ![0] h2
      (Host.reduceAdd x (constant ⟨0, ![]⟩ .f32 0x00000000#32) h hu))) (ValueIdx.ix2 r k) : EReal) = Ideal.div (f k) (∑ q, f q) := by
  have hf' : (fun k => x (ValueIdx.ix2 r k) : Fin n → EReal) = f := funext hf
  rw [hostDivf_at, spreadH_row, col_row, hf]
  exact congrArg (fun v : EReal => Ideal.div (f k) v) ((hostSum_row x h hu r).trans (congrArg (fun F : Fin n → EReal => ∑ q, F q) hf'))

end Cert.K

end
-- ==== Proof.PreRow.lean ====
/- What the precondition says of a row of the logits. -/
module

public import proofs.«01_k».proof.Proof.Weights
public import proofs.«01_k».proof.Proof.HostRows

@[expose] public section

noncomputable section

namespace Cert.K

open Cert.Pre_separated Cert.Pre_separated.Facts Idealize.ShloMosaic Idealize.ShloMosaic.ValueIdx Idealize.SL.Sem

/-- A row of the logits. -/
def xrow (x : FVec Ideal S128x100000 .f32) (r : Fin 128) (k : Fin 100000) : EReal := x (ValueIdx.ix2 r k)

/-- A row has more than 63 columns. -/
theorem n63 : 63 < 100000 := by norm_num

variable [Cert.Pre_separated.Facts] (x : FVec Ideal S128x100000 .f32) (r : Fin 128)

/-- The logits from the largest down, as the precondition sorts them. -/
def pSorted : FVec Ideal S128x100000 .f32 := Host.negf (fn_sort (F := Ideal) (Host.negf x))

/-- The precondition's sorted row. -/
theorem pSorted_row (k : Fin 100000) : (pSorted x (ValueIdx.ix2 r k) : EReal) = xrow x r (place (xrow x r) k) := by
  refine (congrArg (fun v : EReal => -v) (sort_row (m := 128) (n := 100000) _ comparator_pre (Host.negf x) (xrow x r) r (fun _ => rfl) k)).trans ?_
  exact neg_neg _

/-- Their weights. -/
def pWeights : FVec Ideal S128x100000 .f32 :=
  Host.exp (subf (pSorted x) (broadcastInDim S128x100000 ![0, 1] bcast_S128x1_S128x100000_0_1
    (extractStridedSlice S128x1 ![0, 0] (pSorted x) slices_S128x100000_S128x1_0_0)))

/-- The precondition's weights of the sorted row. -/
theorem pWeights_row (k : Fin 100000) : (pWeights x (ValueIdx.ix2 r k) : EReal) = weight (xrow x r) (place (xrow x r) k) := by
  have e : (broadcastInDim S128x100000 ![0, 1] bcast_S128x1_S128x100000_0_1 (extractStridedSlice S128x1 ![0, 0] (pSorted x) slices_S128x100000_S128x1_0_0) (ValueIdx.ix2 r k) : EReal)
      = top (xrow x r) :=
    (spreadH_row (m := 128) (n := 100000) _ bcast_S128x1_S128x100000_0_1 r k).trans
      ((slice_row (m := 128) (n := 100000) (p := 1) 0 (pSorted x) slices_S128x100000_S128x1_0_0 r 0 ⟨0, Nat.zero_lt_of_lt n63⟩ rfl).trans
        ((pSorted_row x r _).trans (top_place (Nat.zero_lt_of_lt n63) _).symm))
  exact congrArg₂ (fun a b : EReal => Ideal.exp (a - b)) (pSorted_row x r k) e

/-- The running sums of the weights. -/
def pSums : FVec Ideal S128x100000 .f32 := fn_cumsum (F := Ideal) (pWeights x)

/-- The precondition's running sums of the weights. -/
theorem pSums_row (i : Fin 100000) :
    (pSums x (ValueIdx.ix2 r i) : EReal) = ∑ k : Fin 100000, if k ≤ i then weight (xrow x r) (place (xrow x r) k) else 0 := by
  refine (cumsum_row (m := 128) (N := 99999) (pWeights x) _ h_S_ Ideal.ofBits_zero_f32 reduceWindows_S128x100000_S128x100000_w1s1p0_0_w100000s1p99999_0 r i).trans ?_
  exact Finset.sum_congr rfl fun k _ => congrArg (fun v : EReal => if k ≤ i then v else 0) (pWeights_row x r k)

/-- The sums before each place. -/
def pBefore : FVec Ideal S128x100000 .f32 :=
  concatenate S128x100000 1 [⟨S128x1, broadcastInDim S128x1 ![] bcast_S_S128x1 (constant (F := Ideal) S_ .f32 0x00000000#32)⟩,
    ⟨S128x99999, extractStridedSlice S128x99999 ![0, 0] (pSums x) slices_S128x100000_S128x99999_0_0⟩] concatenates_S128x1_S128x99999_S128x100000_d1

variable {x r}

/-- The running sums as real numbers. -/
theorem pSums_coe (h : Topped n63 (xrow x r)) (i : Fin 100000) :
    (pSums x (ValueIdx.ix2 r i) : EReal) = ((∑ k : Fin 100000, if k ≤ i then down (xrow x r) k else 0 : ℝ) : EReal) := by
  rw [pSums_row, ← sum_coe]
  refine Finset.sum_congr rfl fun k _ => ?_
  rw [h.weight_coe, ite_coe]
  rfl

/-- The mass before a place, as a real number. -/
theorem pBefore_coe (h : Topped n63 (xrow x r)) (i : Fin 100000) : (pBefore x (ValueIdx.ix2 r i) : EReal) = ((before (down (xrow x r)) i : ℝ) : EReal) := by
  obtain ⟨i, hi⟩ := i
  cases i with
  | zero =>
    rw [before_zero]
    exact (concat_row_zero (m := 128) (n := 100000) (p := 99999) _ _ concatenates_S128x1_S128x99999_S128x100000_d1 r ⟨0, hi⟩ rfl).trans Ideal.ofBits_zero_f32
  | succ q =>
    refine (concat_row_succ (m := 128) (n := 100000) (p := 99999) _ _ concatenates_S128x1_S128x99999_S128x100000_d1 r ⟨q + 1, hi⟩ ⟨q, by omega⟩ rfl).trans ?_
    refine (slice_row (m := 128) (n := 100000) (p := 99999) 0 (pSums x) slices_S128x100000_S128x99999_0_0 r ⟨q, by omega⟩ ⟨q, by omega⟩ (Nat.zero_add q).symm).trans ?_
    rw [pSums_coe h, before_succ (i := ⟨q + 1, hi⟩) _ rfl]

/-- The last column. -/
def lastCol : Fin 100000 := ⟨99999, by norm_num⟩

/-- The last column, as the place that the slice starts at. -/
theorem last_val : lastCol.val = 99999 + (0 : Fin 1).val := by simp [lastCol]

/-- Every column is at or before the last. -/
theorem le_last (k : Fin 100000) : k ≤ lastCol := Fin.le_def.2 (Nat.le_of_lt_succ k.isLt)

/-- The last running sum is the row's whole mass. -/
theorem pTotal_coe (h : Topped n63 (xrow x r)) : (extractStridedSlice S128x1 ![0, 99999] (pSums x) slices_S128x100000_S128x1_0_99999 (ValueIdx.ix2 r 0) : EReal)
      = ((∑ k : Fin 100000, if k ≤ lastCol then down (xrow x r) k else 0 : ℝ) : EReal) :=
    (slice_row (m := 128) (n := 100000) (p := 1) 99999 (pSums x) slices_S128x100000_S128x1_0_99999 r 0 lastCol last_val).trans (pSums_coe h _)

/-- What is at or before the last column is everything. -/
theorem sum_last (g : Fin 100000 → ℝ) : (∑ k : Fin 100000, if k ≤ lastCol then g k else 0) = ∑ k, g k :=
  Finset.sum_congr rfl fun k _ => if_pos (le_last k)

/-- The share of the row's whole mass. -/
theorem pScaled_coe (h : Topped n63 (xrow x r)) :
    (mulf (broadcastInDim S128x1 ![] bcast_S_S128x1 (constant (F := Ideal) S_ .f32 0x3F733333#32))
      (extractStridedSlice S128x1 ![0, 99999] (pSums x) slices_S128x100000_S128x1_0_99999) (ValueIdx.ix2 r 0) : EReal)
      = ((share * ∑ k, down (xrow x r) k : ℝ) : EReal) := by
  rw [mulf_at, pTotal_coe h, scalar_at, ofBits_share, sum_last, ← EReal.coe_mul]

/-- The share of the whole mass. -/
theorem pShare_coe (h : Topped n63 (xrow x r)) (i : Fin 100000) :
    (broadcastInDim S128x100000 ![0, 1] bcast_S128x1_S128x100000_0_1 (mulf (broadcastInDim S128x1 ![] bcast_S_S128x1 (constant (F := Ideal) S_ .f32 0x3F733333#32))
      (extractStridedSlice S128x1 ![0, 99999] (pSums x) slices_S128x100000_S128x1_0_99999)) (ValueIdx.ix2 r i) : EReal)
      = ((share * ∑ k, down (xrow x r) k : ℝ) : EReal) := by
  have e := (spreadH_row (m := 128) (n := 100000) (mulf (broadcastInDim S128x1 ![] bcast_S_S128x1 (constant (F := Ideal) S_ .f32 0x3F733333#32))
      (extractStridedSlice S128x1 ![0, 99999] (pSums x) slices_S128x100000_S128x1_0_99999)) bcast_S128x1_S128x100000_0_1 r i)
  exact e.trans (pScaled_coe h)

variable (x)

/-- The bits of what is kept. -/
def pKept : IVec S128x100000 1 :=
  andi (cmpf .ole (pBefore x) (broadcastInDim S128x100000 ![0, 1] bcast_S128x1_S128x100000_0_1 (mulf (broadcastInDim S128x1 ![] bcast_S_S128x1 (constant (F := Ideal) S_ .f32 0x3F733333#32))
      (extractStridedSlice S128x1 ![0, 99999] (pSums x) slices_S128x100000_S128x1_0_99999))))
    (cmpf .oge (pSorted x) (broadcastInDim S128x100000 ![0, 1] bcast_S128x1_S128x100000_0_1 (extractStridedSlice S128x1 ![0, 63] (pSorted x) slices_S128x100000_S128x1_0_63)))

/-- The precondition in the named parts. -/
theorem fn_eq : Cert.Pre_separated.fn (F := Ideal) x
    = fn_part1 (F := Ideal) (pSorted x) (pKept x) (extractStridedSlice S128x99999 ![0, 0] (pSorted x) slices_S128x100000_S128x99999_0_0) := rfl

variable {x}

/-- The precondition's bit of a kept place. -/
theorem pKept_iff (h : Topped n63 (xrow x r)) (i : Fin 100000) : pKept x (ValueIdx.ix2 r i) = 1#1 ↔ keptAt n63 (xrow x r) i := by
  unfold pKept
  rw [andi_at, andi_one]
  refine and_congr ((cmp_ole _ _).trans ?_) ((cmp_oge _ _).trans ?_)
  · rw [pBefore_coe h, pShare_coe h, EReal.coe_le_coe_iff]
  · have e : (broadcastInDim S128x100000 ![0, 1] bcast_S128x1_S128x100000_0_1 (extractStridedSlice S128x1 ![0, 63] (pSorted x) slices_S128x100000_S128x1_0_63) (ValueIdx.ix2 r i) : EReal)
        = xrow x r (place (xrow x r) ⟨63, n63⟩) :=
      (spreadH_row (m := 128) (n := 100000) _ bcast_S128x1_S128x100000_0_1 r i).trans
        ((slice_row (m := 128) (n := 100000) (p := 1) 63 (pSorted x) slices_S128x100000_S128x1_0_63 r 0 ⟨63, n63⟩ rfl).trans (pSorted_row x r _))
    rw [e, pSorted_row]

/-- The precondition at one place of a row. -/
theorem part_iff (x : FVec Ideal S128x100000 .f32) (r : Fin 128) (q : Fin 99999) (i j : Fin 100000) (hi : i.val = q.val) (hj : j.val = q.val + 1) :
    Cert.Pre_separated.fn (F := Ideal) x (ValueIdx.ix2 r q) = 1#1
      ↔ ((⊥ : EReal) < xrow x r (place (xrow x r) ⟨0, Nat.zero_lt_of_lt n63⟩) ∧ xrow x r (place (xrow x r) ⟨0, Nat.zero_lt_of_lt n63⟩) < (⊤ : EReal))
        ∧ ((((2 : ℝ) ^ (-23 : ℤ) : ℝ) : EReal) ≤ xrow x r (place (xrow x r) i) - xrow x r (place (xrow x r) j)
          ∨ pKept x (ValueIdx.ix2 r i) = pKept x (ValueIdx.ix2 r j)) := by
  rw [fn_eq]
  unfold fn_part1
  dsimp only
  have hj' : j.val = 1 + q.val := by omega
  have hi' : i.val = 0 + q.val := by omega
  have e0 : (extractStridedSlice S128x1 ![0, 0] (pSorted x) slices_S128x100000_S128x1_0_0 (ValueIdx.ix2 r 0) : EReal) = xrow x r (place (xrow x r) ⟨0, Nat.zero_lt_of_lt n63⟩) :=
    (slice_row (m := 128) (n := 100000) (p := 1) 0 (pSorted x) slices_S128x100000_S128x1_0_0 r 0 ⟨0, Nat.zero_lt_of_lt n63⟩ rfl).trans (pSorted_row x r _)
  have ei := (slice_row (m := 128) (n := 100000) (p := 99999) 0 (pSorted x) slices_S128x100000_S128x99999_0_0 r q i hi').trans (pSorted_row x r i)
  have ej := (slice_row (m := 128) (n := 100000) (p := 99999) 1 (pSorted x) slices_S128x100000_S128x99999_0_1 r q j hj').trans (pSorted_row x r j)
  have ki := slice_row (m := 128) (n := 100000) (p := 99999) 0 (pKept x) slices_S128x100000_S128x99999_0_0 r q i hi'
  have kj := slice_row (m := 128) (n := 100000) (p := 99999) 1 (pKept x) slices_S128x100000_S128x99999_0_1 r q j hj'
  rw [andi_at, andi_one, ori_at, ori_one, cmpi_at]
  refine and_congr ?_ (or_congr ((cmp_oge _ _).trans ?_) ?_)
  · rw [show ∀ b : IVec S128x1 1, broadcastInDim S128x99999 ![0, 1] bcast_S128x1_S128x99999_0_1 b (ValueIdx.ix2 r q) = b (ValueIdx.ix2 r 0) from
      fun b => spreadH_row (m := 128) (n := 99999) b bcast_S128x1_S128x99999_0_1 r q, andi_at, andi_one]
    refine and_congr ((cmp_ogt _ _).trans ?_) ((cmp_olt _ _).trans ?_)
    · exact iff_of_eq (congrArg₂ (fun a b : EReal => a < b) ofBits_neg_inf e0)
    · exact iff_of_eq (congrArg₂ (fun a b : EReal => a < b) e0 ofBits_pos_inf)
  · exact iff_of_eq (congrArg₂ (fun a b : EReal => a ≤ b) ofBits_eps (congrArg₂ (fun a b : EReal => a - b) ei ej))
  · rw [ki, kj]
    generalize pKept x (ValueIdx.ix2 r i) = a
    generalize pKept x (ValueIdx.ix2 r j) = b
    revert a b
    decide

/-- Under the precondition every row is fine. -/
theorem fine_of_pre (x : FVec Ideal S128x100000 .f32) (h : Cert.Pre_separated.fn (F := Ideal) x = fun _ => 1#1) (r : Fin 128) : Fine n63 (xrow x r) := by
  have hp := fun (q : Fin 99999) (i j : Fin 100000) hi hj => (part_iff x r q i j hi hj).1 (congrFun h _)
  have h0 := (hp ⟨0, by norm_num⟩ ⟨0, by norm_num⟩ ⟨1, by norm_num⟩ rfl rfl).1
  have ht : Topped n63 (xrow x r) := ⟨h0.1, h0.2⟩
  refine ⟨ht, fun i j hij hi hj => ?_⟩
  have := j.isLt
  rcases (hp ⟨i.val, by omega⟩ i j rfl hij).2 with hg | hg
  · exact hg
  · exact absurd ((pKept_iff ht j).1 (hg ▸ (pKept_iff ht i).2 hi)) hj

end Cert.K

end
-- ==== Proof.RefTerms.lean ====
/- The reference's chain of values as terms of the logits, each read at a row that is fine: the order, the sorted row, the
   bits of the running sums, the masked row, what is left of it, and the quotients. -/
module

public import proofs.«01_k».proof.Proof.RefMath
public import proofs.«01_k».proof.Proof.PreRow
public import proofs.«01_k».proof.Proof.Gen.ReferenceIdeal

@[expose] public section

noncomputable section

namespace Cert.K

open Cert.ReferenceIdeal Cert.ReferenceIdeal.Gen Idealize.ShloMosaic Idealize.ShloMosaic.ValueIdx Idealize.SL.Sem

/-- Whether a place of the order is shut, as the reference reads it off the running sum of the quotients. -/
theorem Fine.shut_iff {n : ℕ} {h63 : 63 < n} {x : Fin n → EReal} (h : Fine h63 x) {k i : Fin n} (hi : i.val = k.val + 1) :
    ((share : ℝ) : EReal) < (∑ q, if q ≤ k then Ideal.div (weight x (place x q)) (∑ p, weight x (place x p)) else 0) ↔ shut x i := by
  have hz : (∑ p, weight x (place x p)) = ((∑ p, down x p : ℝ) : EReal) := by
    rw [← sum_coe]
    exact Finset.sum_congr rfl fun p _ => h.weight_coe (place x p)
  have h1 : down x ⟨0, h.h0⟩ = 1 := (h.wt_one _).2 (top_place h.h0 x).symm
  have hpos : 0 < ∑ p, down x p := by
    have := Finset.single_le_sum (f := down x) (fun j _ => h.wt_nonneg _) (Finset.mem_univ ⟨0, h.h0⟩)
    linarith
  have hs : (∑ q, if q ≤ k then Ideal.div (weight x (place x q)) (∑ p, weight x (place x p)) else 0)
      = ((before (down x) i / ∑ p, down x p : ℝ) : EReal) := by
    rw [hz, ← before_succ (down x) hi, Finset.sum_div]
    refine Eq.trans (Finset.sum_congr rfl fun q _ => ?_) (sum_coe Finset.univ _)
    rw [h.weight_coe, div_coe _ _ hpos.ne', ite_coe, ite_div, zero_div]
    rfl
  unfold shut
  rw [hs, EReal.coe_lt_coe_iff, lt_div_iff₀ hpos]

/-- A column as a word, read signed. -/
theorem col_toInt (k : Fin 100000) : (BitVec.ofNat 32 k.val).toInt = k.val := StableHlo.Predicate.toInt_ofNat_small _ (by have := k.isLt; omega)

/-- A column as a word is not negative. -/
theorem col_toNat (k : Fin 100000) : (BitVec.ofNat 32 k.val).toNat < 2 ^ 31 := by
  have := k.isLt
  rw [BitVec.toNat_ofNat, Nat.mod_eq_of_lt (by omega)]
  omega

/-- The bit of a signed greater-or-equal. -/
theorem sge_one (a b : BitVec 32) : IntOp.cmpi .sge a b = 1#1 ↔ b.toInt ≤ a.toInt := by
  show BitVec.ofBool (b.sle a) = 1#1 ↔ _
  rw [← BitVec.sle_iff_toInt_le]
  cases b.sle a <;> simp

/-- The bit of a signed less-or-equal. -/
theorem sle_one (a b : BitVec 32) : IntOp.cmpi .sle a b = 1#1 ↔ a.toInt ≤ b.toInt := by
  show BitVec.ofBool (a.sle b) = 1#1 ↔ _
  rw [← BitVec.sle_iff_toInt_le]
  cases a.sle b <;> simp

/-- The last column as a number. -/
theorem toInt_last : (99999#32 : BitVec 32).toInt = 99999 := by decide

/-- The column that each row's search for its largest entry ends with. -/
def colOf {m n : ℕ} {u : Shape} (y : FVec Ideal ⟨2, ![m, n]⟩ .f32) (h : (⟨2, ![m, n]⟩ : Shape).ReducesTo [1] ⟨1, ![m]⟩) (hu : 0 < u.numel) : IVec ⟨1, ![m]⟩ 32 := fun j =>
  (Host.argReduce (reducer_argmax_f32_i32 (F := Ideal)) y (iotaInDim ⟨2, ![m, n]⟩ 32 1) (constant u .f32 0xFF800000#32) (constantI u 32 0#32) h hu j).2

/-- Of a row that holds the quotients, that is the row's first largest logit. -/
theorem colOf_row {m n : ℕ} {u : Shape} {h63 : 63 < n} (hn : n ≤ 100000) (y : FVec Ideal ⟨2, ![m, n]⟩ .f32) (h : (⟨2, ![m, n]⟩ : Shape).ReducesTo [1] ⟨1, ![m]⟩) (hu : 0 < u.numel)
    (f : Fin n → EReal) (hf : Fine h63 f) (r : Fin m) (hy : ∀ j, (y (ValueIdx.ix2 r j) : EReal) = Ideal.div (left h63 f j) (∑ k, left h63 f k)) :
    colOf y h hu (ValueIdx.ix1 r) = firstTop f := by
  obtain ⟨k, hk, hmax⟩ := argmax_row (Nat.zero_lt_of_lt h63) (hn.trans (by norm_num)) y h hu r (fun k => by rw [hy, hf.quot_coe hn]; exact EReal.bot_lt_coe _)
  exact hk.trans (hf.first_quot hn (fun k => y (ValueIdx.ix2 r k)) hy k hmax).symm

variable (x : FVec Ideal S128x100000 .f32) (r : Fin 128)

/-! ### The order -/

/-- The columns of each row in the order of their logits. -/
def rOrder : IVec S128x100000 32 := (Host.sort2 S128x100000 1 comparator_f32_i32_d1 (Host.negf x) (iotaInDim S128x100000 32 1)).2

/-- The order at a row is the order of its logits. -/
theorem rOrder_row (k : Fin 100000) : rOrder x (ValueIdx.ix2 r k) = BitVec.ofNat 32 (place (xrow x r) k).val :=
  sort2_row (m := 128) (n := 100000) _ comparator_ref (Host.negf x) (iotaInDim S128x100000 32 1) (xrow x r) r (fun _ => rfl) k

/-- The same as indices that may be negative. -/
def rWrapped : IVec S128x100000 32 :=
  select (cmpi .slt (rOrder x) (broadcastInDim S128x100000 ![] bcast_S_S128x100000 (constantI S_ 32 0#32)))
    (addi (rOrder x) (broadcastInDim S128x100000 ![] bcast_S_S128x100000 (constantI S_ 32 100000#32))) (rOrder x)

/-- No index is negative, so wrapping changes none. -/
theorem rWrapped_row (k : Fin 100000) : rWrapped x (ValueIdx.ix2 r k) = BitVec.ofNat 32 (place (xrow x r) k).val := by
  unfold rWrapped
  rw [wrap_at _ _ _ _ (scalarI_at _ _ _ _) (by rw [rOrder_row]; exact col_toNat _), rOrder_row]

/-- The same as indices of the gather. -/
def rIndex : IVec S128x100000x1 32 := shapeCast _ (rWrapped x) shapeCasts_S128x100000_S128x100000x1

/-- The gather reads the column of each place. -/
theorem rIndex_row (k : Fin 100000) (u : Fin 1) : rIndex x (ValueIdx.ix3 r k u) = BitVec.ofNat 32 (place (xrow x r) k).val :=
  (unit_cast (m := 128) (n := 100000) _ shapeCasts_S128x100000_S128x100000x1 r k u).trans (rWrapped_row x r k)

/-- The bits of the indices in range. -/
def rIn : IVec S128x100000x1 1 :=
  andi (cmpi .sge (rIndex x) (broadcastInDim S128x100000x1 ![] bcast_S_S128x100000x1 (constantI S_ 32 0#32)))
    (cmpi .sle (rIndex x) (broadcastInDim S128x100000x1 ![0, 1, 2] bcast_S1x1x1_S128x100000x1_0_1_2
      (broadcastInDim S1x1x1 ![2] bcast_S1_S1x1x1_2 (constantI S1 32 99999#32))))

/-- An integer scalar spread twice, read at a place. -/
theorem scalarI_at2 {s t v : Shape} {w : ℕ} (d : Fin s.rank → Fin t.rank) (h : s.BroadcastsInDim t d) (e : Fin t.rank → Fin v.rank) (h' : t.BroadcastsInDim v e) (c : BitVec w) (i : v.Idx) :
    broadcastInDim v e h' (broadcastInDim t d h (constantI s w c)) i = c := rfl

/-- Every index is in range. -/
theorem rIn_one (i : S128x100000x1.Idx) : rIn x i = 1#1 := by
  obtain ⟨a, b, u, rfl⟩ : ∃ (a : Fin 128) (b : Fin 100000) (u : Fin 1), i = ValueIdx.ix3 a b u := ⟨i 0, i 1, i 2, eq_ix3 i⟩
  unfold rIn
  rw [andi_at, andi_one, cmpi_at, cmpi_at, sge_one, sle_one, rIndex_row, col_toInt, scalarI_at, scalarI_at2, toInt_last]
  refine ⟨Int.natCast_nonneg _, ?_⟩
  have := (place (xrow x a) b).isLt
  omega

/-- The row in its order. -/
def rSorted : FVec Ideal S128x100000 .f32 :=
  select (Host.reduce IntOp.andi (rIn x) (constantI S_ 1 1#1) reducesTo_S128x100000x1_S128x100000_d2 h_S_)
    (Host.gather gather_S128x100000_S128x100000x1_S128x100000_n_1_0_0_1_2_11 x (rIndex x))
    (broadcastInDim S128x100000 ![] bcast_S_S128x100000 (constant S_ .f32 0x7FC00000#32))

/-- A selection by the bit one. -/
theorem select_one {α : Type} (a b : α) : Scalar.select 1#1 a b = a := if_pos rfl

/-- The gather reads the row in its order. -/
theorem rSorted_row (k : Fin 100000) : (rSorted x (ValueIdx.ix2 r k) : EReal) = xrow x r (place (xrow x r) k) := by
  unfold rSorted
  rw [select_at, hostAll_one _ _ reducesTo_S128x100000x1_S128x100000_d2 h_S_ (rIn_one x) rfl, select_one]
  exact gather_row (m := 128) (n := 100000) _ x _ r k (place (xrow x r) k) (by rw [rIndex_row]; exact col_toInt _)

/-! ### Exponentials and quotients -/

/-- The exponentials of an array's rows relative to the rows' largest. -/
def rRel (y : FVec Ideal S128x100000 .f32) : FVec Ideal S128x100000 .f32 :=
  Host.exp (subf y (broadcastInDim S128x100000 ![0, 1] bcast_S128x1_S128x100000_0_1 (broadcastInDim S128x1 ![0] bcast_S128_S128x1_0
    (maximumf (broadcastInDim S128 ![] bcast_S_S128 (constant S_ .f32 0xFF800000#32)) (Host.reduce FloatOps.maximumf y (constant S_ .f32 0xFF800000#32) reducesTo_S128x100000_S128_d1 h_S_)))))

/-- The exponentials of a row. -/
theorem rRel_row (y : FVec Ideal S128x100000 .f32) (f : Fin 100000 → EReal) (hf : ∀ k, y (ValueIdx.ix2 r k) = f k) (k : Fin 100000) :
    (rRel y (ValueIdx.ix2 r k) : EReal) = Ideal.exp (f k - max ⊥ (top f)) :=
  relExp_row (m := 128) (n := 100000) y bcast_S128x1_S128x100000_0_1 bcast_S128_S128x1_0 bcast_S_S128 reducesTo_S128x100000_S128_d1 h_S_ f r hf k

/-- The quotients of an array's rows by the rows' sums. -/
def rQuot (y : FVec Ideal S128x100000 .f32) : FVec Ideal S128x100000 .f32 :=
  Host.divf y (broadcastInDim S128x100000 ![0, 1] bcast_S128x1_S128x100000_0_1 (broadcastInDim S128x1 ![0] bcast_S128_S128x1_0
    (Host.reduceAdd y (constant S_ .f32 0x00000000#32) reducesTo_S128x100000_S128_d1 h_S_)))

/-- The quotients of a row. -/
theorem rQuot_row (y : FVec Ideal S128x100000 .f32) (f : Fin 100000 → EReal) (hf : ∀ k, y (ValueIdx.ix2 r k) = f k) (k : Fin 100000) :
    (rQuot y (ValueIdx.ix2 r k) : EReal) = Ideal.div (f k) (∑ q, f q) :=
  quot_row (m := 128) (n := 100000) y bcast_S128x1_S128x100000_0_1 bcast_S128_S128x1_0 reducesTo_S128x100000_S128_d1 h_S_ f r hf k

/-- The weights of the row in its order. -/
theorem rWeights_row (k : Fin 100000) : (rRel (rSorted x) (ValueIdx.ix2 r k) : EReal) = weight (xrow x r) (place (xrow x r) k) := by
  rw [rRel_row r _ _ (rSorted_row x r), top_comp, max_eq_right bot_le]
  rfl

/-! ### The running sums -/

/-- The running sums of the quotients. -/
def rSums : FVec Ideal S128x100000 .f32 :=
  Host.reduceWindowAdd ![1, 100000] ![1, 1] ![0, 99999] ![0, 0] (rQuot (rRel (rSorted x))) (broadcastInDim S_ ![] bcast_S_S_ (constant S_ .f32 0x00000000#32))
    reduceWindows_S128x100000_S128x100000_w1s1p0_0_w100000s1p99999_0 h_S_

/-- The running sums of a row, as sums. -/
theorem rSums_row (k : Fin 100000) : (rSums x (ValueIdx.ix2 r k) : EReal)
    = ∑ q, if q ≤ k then Ideal.div (weight (xrow x r) (place (xrow x r) q)) (∑ p, weight (xrow x r) (place (xrow x r) p)) else 0 := by
  refine (cumsum_row (m := 128) (N := 99999) (rQuot (rRel (rSorted x))) _ h_S_ Ideal.ofBits_zero_f32 reduceWindows_S128x100000_S128x100000_w1s1p0_0_w100000s1p99999_0 r k).trans ?_
  exact Finset.sum_congr rfl fun q _ => congrArg (fun v : EReal => if q ≤ k then v else 0) (rQuot_row r _ _ (rWeights_row x r) q)

/-- The bits of the running sums above the share. -/
def rBits : IVec S128x100000 1 := cmpf .ogt (rSums x) (broadcastInDim S128x100000 ![] bcast_S_S128x100000 (constant S_ .f32 0x3F733333#32))

/-- The bits moved one place down the row. -/
def rShift : IVec S128x100000 1 :=
  concatenate S128x100000 1 [⟨S128x1, broadcastInDim S128x1 ![] bcast_S_S128x1 (constantI S_ 1 0#1)⟩,
    ⟨S128x99999, extractStridedSlice S128x99999 ![0, 0] (rBits x) slices_S128x100000_S128x99999_0_0⟩] concatenates_S128x1_S128x99999_S128x100000_d1

variable {x r}

/-- The bit of a place says that the next place is shut. -/
theorem rBits_row (h : Fine n63 (xrow x r)) {k i : Fin 100000} (hi : i.val = k.val + 1) : rBits x (ValueIdx.ix2 r k) = 1#1 ↔ shut (xrow x r) i := by
  unfold rBits
  rw [← h.shut_iff hi, cmpf_at, cmp_ogt, scalar_at, ofBits_share, rSums_row]

/-- Moved down one, the bit of a place says that the place is shut. -/
theorem rShift_row (h : Fine n63 (xrow x r)) (i : Fin 100000) : rShift x (ValueIdx.ix2 r i) = 1#1 ↔ shut (xrow x r) i := by
  obtain ⟨i, hi⟩ := i
  cases i with
  | zero =>
    have e : rShift x (ValueIdx.ix2 r ⟨0, hi⟩) = 0#1 := concat_row_zero (m := 128) (n := 100000) (p := 99999) _ _ concatenates_S128x1_S128x99999_S128x100000_d1 r ⟨0, hi⟩ rfl
    rw [e]
    refine ⟨fun hc => absurd hc (by decide), fun hc => ?_⟩
    unfold shut at hc
    rw [before_zero] at hc
    exact absurd h.mass_nonneg (not_le.2 hc)
  | succ q =>
    have e : rShift x (ValueIdx.ix2 r ⟨q + 1, hi⟩) = rBits x (ValueIdx.ix2 r ⟨q, by omega⟩) :=
      (concat_row_succ (m := 128) (n := 100000) (p := 99999) _ _ concatenates_S128x1_S128x99999_S128x100000_d1 r ⟨q + 1, hi⟩ ⟨q, by omega⟩ rfl).trans
        (slice_row (m := 128) (n := 100000) (p := 99999) 0 (rBits x) slices_S128x100000_S128x99999_0_0 r ⟨q, by omega⟩ ⟨q, by omega⟩ (Nat.zero_add q).symm)
    rw [e]
    exact rBits_row h rfl

/-! ### The masked row -/

/-- The rows' own numbers, as a column. -/
def rRows : IVec S128x1 32 := broadcastInDim S128x1 ![0] bcast_S128_S128x1_0 (iotaInDim S128 32 0)

/-- A row's own number. -/
theorem rRows_row (a : Fin 128) : rRows (ValueIdx.ix2 a 0) = BitVec.ofNat 32 a.val := col_row (m := 128) _ bcast_S128_S128x1_0 a 0

/-- The first index words of the scatter. -/
def rFirst : IVec S128x100000x1 32 :=
  broadcastInDim S128x100000x1 ![0, 1] bcast_S128x100000_S128x100000x1_0_1 (broadcastInDim S128x100000 ![0, 1] bcast_S128x1_S128x100000_0_1
    (select (cmpi .slt rRows (broadcastInDim S128x1 ![] bcast_S_S128x1 (constantI S_ 32 0#32)))
      (addi rRows (broadcastInDim S128x1 ![] bcast_S_S128x1 (constantI S_ 32 128#32))) rRows))

/-- A row as a word is not negative. -/
theorem row_toNat (a : Fin 128) : (BitVec.ofNat 32 a.val).toNat < 2 ^ 31 := by
  have := a.isLt
  rw [BitVec.toNat_ofNat, Nat.mod_eq_of_lt (by omega)]
  omega

/-- The scatter writes to its own row. -/
theorem rFirst_row (a : Fin 128) (b : Fin 100000) : rFirst (ValueIdx.ix3 a b 0) = BitVec.ofNat 32 a.val := by
  refine (unit_row (m := 128) (n := 100000) _ bcast_S128x100000_S128x100000x1_0_1 a b 0).trans ((spreadH_row (m := 128) (n := 100000) _ bcast_S128x1_S128x100000_0_1 a b).trans ?_)
  rw [wrap_at _ _ _ _ (scalarI_at _ _ _ _) (by rw [rRows_row]; exact row_toNat a), rRows_row]

variable (x)

/-- The second index words of the scatter. -/
def rSecond : IVec S128x100000x1 32 := broadcastInDim S128x100000x1 ![0, 1] bcast_S128x100000_S128x100000x1_0_1 (rWrapped x)

/-- The scatter writes at the column of the place. -/
theorem rSecond_row (a : Fin 128) (b : Fin 100000) : rSecond x (ValueIdx.ix3 a b 0) = BitVec.ofNat 32 (place (xrow x a) b).val :=
  (unit_row (m := 128) (n := 100000) _ bcast_S128x100000_S128x100000x1_0_1 a b 0).trans (rWrapped_row x a b)

/-- The index words of the scatter. -/
def rPairs : IVec S128x100000x2 32 := concatenate S128x100000x2 2 [⟨S128x100000x1, rFirst⟩, ⟨S128x100000x1, rSecond x⟩] concatenates_S128x100000x1_S128x100000x1_S128x100000x2_d2

/-- The first word of an index, signed. -/
theorem rPairs_fst (a : Fin 128) (b : Fin 100000) : (rPairs x (ValueIdx.ix3 a b 0)).toInt = a.val := by
  have e : rPairs x (ValueIdx.ix3 a b 0) = BitVec.ofNat 32 a.val :=
    (pair_fst (m := 128) (n := 100000) _ _ concatenates_S128x100000x1_S128x100000x1_S128x100000x2_d2 a b).trans (rFirst_row a b)
  rw [e]
  exact StableHlo.Predicate.toInt_ofNat_small _ (by have := a.isLt; omega)

/-- The second word of an index, signed. -/
theorem rPairs_snd (a : Fin 128) (b : Fin 100000) : (rPairs x (ValueIdx.ix3 a b 1)).toInt = (place (xrow x a) b).val := by
  have e : rPairs x (ValueIdx.ix3 a b 1) = BitVec.ofNat 32 (place (xrow x a) b).val :=
    (pair_snd (m := 128) (n := 100000) _ _ concatenates_S128x100000x1_S128x100000x1_S128x100000x2_d2 a b).trans (rSecond_row x a b)
  rw [e]
  exact col_toInt _

/-- The bits of the shut places, back at their columns. -/
def rDrop : IVec S128x100000 1 :=
  Host.scatter scatter_S128x100000_S128x100000x2_S128x100000_n_01_01_2 (fun _ b => b) (broadcastInDim S128x100000 ![] bcast_S_S128x100000 (constantI S_ 1 0#1)) (rPairs x) (rShift x)

/-- Both dimensions are indexed. -/
theorem scatter_iw : (scatter_S128x100000_S128x100000x2_S128x100000_n_01_01_2).insertedWindowDims = [0, 1] := rfl

/-- The index words name the dimensions in order. -/
theorem scatter_sd : (scatter_S128x100000_S128x100000x2_S128x100000_n_01_01_2).scatterDimsToOperandDims = [0, 1] := rfl

/-- The index words lie along the last dimension. -/
theorem scatter_ivd : (scatter_S128x100000_S128x100000x2_S128x100000_n_01_01_2).indexVectorDim = 2 := rfl

/-- The column of each place of each row, as the scatter's target. -/
def target (a : Fin 128) (b : Fin 100000) : Fin 100000 := place (xrow x a) b

/-- A row's targets are distinct. -/
theorem target_inj (a : Fin 128) : Function.Injective (target x a) := (place_bijective _).1

/-- A column's bit is its place's. -/
theorem rDrop_row (i : Fin 100000) : rDrop x (ValueIdx.ix2 r (target x r i)) = rShift x (ValueIdx.ix2 r i) :=
  scatter_row (m := 128) (n := 100000) scatter_S128x100000_S128x100000x2_S128x100000_n_01_01_2 scatter_iw scatter_sd scatter_ivd _ (rPairs x) (rShift x)
    (target x) (target_inj x) (rPairs_fst x) (rPairs_snd x) r i

/-- The row with the shut places masked. -/
def rMasked : FVec Ideal S128x100000 .f32 := select (rDrop x) (broadcastInDim S128x100000 ![] bcast_S_S128x100000 (constant S_ .f32 0xFF800000#32)) x

/-- Its 64th largest, along the row. -/
def rKth : FVec Ideal S128x100000 .f32 :=
  broadcastInDim S128x100000 ![0, 1] bcast_S128x1_S128x100000_0_1 (extractStridedSlice S128x1 ![0, 63]
    ((Host.topK S128x64 1 (FloatOps.cmpfTotal .gt) (rMasked x) sliceFits_S128x100000_S128x64).1) slices_S128x64_S128x1_0_63)

/-- The row with what is below that masked too. -/
def rRest : FVec Ideal S128x100000 .f32 :=
  select (cmpf .olt (rMasked x) (rKth x)) (broadcastInDim S128x100000 ![] bcast_S_S128x100000 (constant S_ .f32 0xFF800000#32)) (rMasked x)

variable {x}

/-- The masked row. -/
theorem rMasked_row (h : Fine n63 (xrow x r)) (j : Fin 100000) : (rMasked x (ValueIdx.ix2 r j) : EReal) = masked (xrow x r) j := by
  classical
  obtain ⟨i, rfl⟩ : ∃ i, place (xrow x r) i = j := ⟨_, place_symm (xrow x r) j⟩
  unfold rMasked
  have e : rDrop x (ValueIdx.ix2 r (place (xrow x r) i)) = rShift x (ValueIdx.ix2 r i) := rDrop_row x i
  rw [masked_place, select_at, e, select_iff (rShift_row h i), scalar_at, ofBits_neg_inf]
  rfl

/-- The 64th largest of the masked row. -/
theorem rKth_row (h : Fine n63 (xrow x r)) (j : Fin 100000) : (rKth x (ValueIdx.ix2 r j) : EReal) = masked (xrow x r) (place (masked (xrow x r)) ⟨63, n63⟩) := by
  refine (spreadH_row (m := 128) (n := 100000) _ bcast_S128x1_S128x100000_0_1 r j).trans ?_
  refine (slice_row (m := 128) (n := 64) (p := 1) 63 _ slices_S128x64_S128x1_0_63 r 0 ⟨63, by norm_num⟩ rfl).trans ?_
  exact topK_row (m := 128) (n := 100000) (p := 64) (rMasked x) sliceFits_S128x100000_S128x64 (masked (xrow x r)) r (rMasked_row h) ⟨63, by norm_num⟩ ⟨63, n63⟩ rfl

/-- What both masks leave of the row. -/
theorem rRest_row (h : Fine n63 (xrow x r)) (j : Fin 100000) : (rRest x (ValueIdx.ix2 r j) : EReal) = rest n63 (xrow x r) j := by
  classical
  unfold rRest rest
  rw [select_at, cmpf_at, select_iff (cmp_olt _ _), rMasked_row h, rKth_row h, scalar_at, ofBits_neg_inf]

/-! ### The two results -/

/-- The weights of what is left. -/
theorem rLeft_row (h : Fine n63 (xrow x r)) (j : Fin 100000) : (rRel (rRest x) (ValueIdx.ix2 r j) : EReal) = left n63 (xrow x r) j :=
  (rRel_row r _ _ (rRest_row h) j).trans (h.exp_rest le_rfl j)

/-- The probabilities of a row. -/
theorem rProbs_row (h : Fine n63 (xrow x r)) (j : Fin 100000) :
    (rQuot (rRel (rRest x)) (ValueIdx.ix2 r j) : EReal) = Ideal.div (left n63 (xrow x r) j) (∑ k, left n63 (xrow x r) k) :=
  rQuot_row r _ _ (rLeft_row h) j

/-- The largest quotient of each row. -/
def rConf : FVec Ideal S128x1 .f32 :=
  broadcastInDim S128x1 ![0] bcast_S128_S128x1_0 (Host.reduce FloatOps.maximumf (rQuot (rRel (rRest x))) (constant S_ .f32 0xFF800000#32) reducesTo_S128x100000_S128_d1 h_S_)

/-- The largest probability is one over the kept mass. -/
theorem rConf_row (h : Fine n63 (xrow x r)) (u : Fin 1) : (rConf (x := x) (ValueIdx.ix2 r u) : EReal) = ((1 / mass n63 (xrow x r) : ℝ) : EReal) := by
  refine (col_row (m := 128) _ bcast_S128_S128x1_0 r u).trans ((hostMax_row (m := 128) (n := 100000) _ reducesTo_S128x100000_S128_d1 h_S_ r).trans ?_)
  exact (congrArg top (funext (rProbs_row h))).trans (h.top_quot le_rfl)

/-- The column of the largest quotient of each row. -/
theorem rCol_row (h : Fine n63 (xrow x r)) : colOf (m := 128) (n := 100000) (rQuot (rRel (rRest x))) reducesTo_S128x100000_S128_d1 h_S_ (ValueIdx.ix1 r) = firstTop (xrow x r) :=
  colOf_row (m := 128) (n := 100000) le_rfl _ reducesTo_S128x100000_S128_d1 h_S_ (xrow x r) h r (rProbs_row h)

end Cert.K

end
-- ==== Proof.RefRun.lean ====
/- The run of the reference's @main, read back: the program is a list of 108 host operations, cut into windows; after each
   window the buffers that later windows read hold named terms of the arguments. The last two operations of the list
   before the broadcasts are the two results of the reduction that finds the column of the largest probability. -/
module

public import proofs.«01_k».proof.Proof.Gen.ReferenceIdeal
public import Idealize.ShloMosaic.Lib.StableHlo.Run
public import Idealize.ShloMosaic.Lib.Pipeline.Frame

@[expose] public section

set_option Elab.async false

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- The function of the operation that writes `main_v20`, named. It packs its operands into a list of dependent pairs
    whose shapes a later argument's type mentions, so `simp` cannot rewrite an operand where it stands; applied by
    name, the operands are plain arguments, which the window lemmas below rewrite before the name unfolds. -/
def fn_main_v20 : (⟨S128x1, .i1⟩ : BufTy).Contents (Elt F) → (⟨S128x99999, .i1⟩ : BufTy).Contents (Elt F) → (⟨S128x100000, .i1⟩ : BufTy).Contents (Elt F) :=
  (fun a b => concatenate S128x100000 1 [⟨S128x1, a⟩, ⟨S128x99999, b⟩] concatenates_S128x1_S128x99999_S128x100000_d1)

/-- The function of the operation that writes `main_v37`, named. It packs its operands into a list of dependent pairs
    whose shapes a later argument's type mentions, so `simp` cannot rewrite an operand where it stands; applied by
    name, the operands are plain arguments, which the window lemmas below rewrite before the name unfolds. -/
def fn_main_v37 : (⟨S128x100000x1, .i32⟩ : BufTy).Contents (Elt F) → (⟨S128x100000x1, .i32⟩ : BufTy).Contents (Elt F) → (⟨S128x100000x2, .i32⟩ : BufTy).Contents (Elt F) :=
  (fun a b => concatenate S128x100000x2 2 [⟨S128x100000x1, a⟩, ⟨S128x100000x1, b⟩] concatenates_S128x100000x1_S128x100000x1_S128x100000x2_d2)

/-- @main's operations 1 … 30 of 108 (window `main_part0`). -/
abbrev ops_part0_0 : List (HloOp τ sig (Elt F)) :=
  [ unary main_arg0 main_v0 (Host.negf : (⟨S128x100000, .f32⟩ : BufTy).Contents (Elt F) → (⟨S128x100000, .f32⟩ : BufTy).Contents (Elt F)),
    TRef.nullary (TRef.of (T := ⟨S128x100000, .i32⟩) main_call0_v0) (iotaInDim S128x100000 32 1),
    TRef.binary (TRef.of (T := ⟨S128x100000, .f32⟩) main_v0) (TRef.of (T := ⟨S128x100000, .i32⟩) main_call0_v0) (TRef.of (T := ⟨S128x100000, .f32⟩) main_call0_v1_0) (fun x y => (Host.sort2 S128x100000 1 comparator_f32_i32_d1 x y).1),
    TRef.binary (TRef.of (T := ⟨S128x100000, .f32⟩) main_v0) (TRef.of (T := ⟨S128x100000, .i32⟩) main_call0_v0) (TRef.of (T := ⟨S128x100000, .i32⟩) main_v1) (fun x y => (Host.sort2 S128x100000 1 comparator_f32_i32_d1 x y).2),
    TRef.nullary (TRef.of (T := ⟨S_, .i32⟩) main_call1_c) (constantI S_ 32 0#32),
    TRef.unary (TRef.of (T := ⟨S_, .i32⟩) main_call1_c) (TRef.of (T := ⟨S128x100000, .i32⟩) main_call1_v0) (broadcastInDim S128x100000 ![] bcast_S_S128x100000),
    TRef.binary (TRef.of (T := ⟨S128x100000, .i32⟩) main_v1) (TRef.of (T := ⟨S128x100000, .i32⟩) main_call1_v0) (TRef.of (T := ⟨S128x100000, .i1⟩) main_call1_v1) (cmpi .slt),
    TRef.nullary (TRef.of (T := ⟨S_, .i32⟩) main_call1_c_0) (constantI S_ 32 100000#32),
    TRef.unary (TRef.of (T := ⟨S_, .i32⟩) main_call1_c_0) (TRef.of (T := ⟨S128x100000, .i32⟩) main_call1_v2) (broadcastInDim S128x100000 ![] bcast_S_S128x100000),
    TRef.binary (TRef.of (T := ⟨S128x100000, .i32⟩) main_v1) (TRef.of (T := ⟨S128x100000, .i32⟩) main_call1_v2) (TRef.of (T := ⟨S128x100000, .i32⟩) main_call1_v3) addi,
    TRef.ternary (TRef.of (T := ⟨S128x100000, .i1⟩) main_call1_v1) (TRef.of (T := ⟨S128x100000, .i32⟩) main_call1_v3) (TRef.of (T := ⟨S128x100000, .i32⟩) main_v1) (TRef.of (T := ⟨S128x100000, .i32⟩) main_call1_v4) select,
    TRef.reshape (TRef.of (T := ⟨S128x100000, .i32⟩) main_call1_v4) (TRef.of (T := ⟨S128x100000x1, .i32⟩) main_call1_v5) (rfl : (.i32 : EltTy) = .i32) shapeCasts_S128x100000_S128x100000x1,
    TRef.nullary (TRef.of (T := ⟨S1, .i32⟩) main_call1_c_1) (constantI S1 32 99999#32),
    TRef.nullary (TRef.of (T := ⟨S_, .i32⟩) main_call1_c_2) (constantI S_ 32 0#32),
    TRef.unary (TRef.of (T := ⟨S_, .i32⟩) main_call1_c_2) (TRef.of (T := ⟨S128x100000x1, .i32⟩) main_call1_v6) (broadcastInDim S128x100000x1 ![] bcast_S_S128x100000x1),
    TRef.binary (TRef.of (T := ⟨S128x100000x1, .i32⟩) main_call1_v5) (TRef.of (T := ⟨S128x100000x1, .i32⟩) main_call1_v6) (TRef.of (T := ⟨S128x100000x1, .i1⟩) main_call1_v7) (cmpi .sge),
    TRef.unary (TRef.of (T := ⟨S1, .i32⟩) main_call1_c_1) (TRef.of (T := ⟨S1x1x1, .i32⟩) main_call1_v8) (broadcastInDim S1x1x1 ![2] bcast_S1_S1x1x1_2),
    TRef.unary (TRef.of (T := ⟨S1x1x1, .i32⟩) main_call1_v8) (TRef.of (T := ⟨S128x100000x1, .i32⟩) main_call1_v9) (broadcastInDim S128x100000x1 ![0, 1, 2] bcast_S1x1x1_S128x100000x1_0_1_2),
    TRef.binary (TRef.of (T := ⟨S128x100000x1, .i32⟩) main_call1_v5) (TRef.of (T := ⟨S128x100000x1, .i32⟩) main_call1_v9) (TRef.of (T := ⟨S128x100000x1, .i1⟩) main_call1_v10) (cmpi .sle),
    TRef.binary (TRef.of (T := ⟨S128x100000x1, .i1⟩) main_call1_v7) (TRef.of (T := ⟨S128x100000x1, .i1⟩) main_call1_v10) (TRef.of (T := ⟨S128x100000x1, .i1⟩) main_call1_v11) andi,
    TRef.nullary (TRef.of (T := ⟨S_, .i1⟩) main_call1_c_3) (constantI S_ 1 1#1),
    TRef.binary (TRef.of (T := ⟨S128x100000x1, .i1⟩) main_call1_v11) (TRef.of (T := ⟨S_, .i1⟩) main_call1_c_3) (TRef.of (T := ⟨S128x100000, .i1⟩) main_call1_v12) (fun x v => Host.reduce IntOp.andi x v reducesTo_S128x100000x1_S128x100000_d2 h_S_),
    TRef.binary (TRef.of (T := ⟨S128x100000, .f32⟩) main_arg0) (TRef.of (T := ⟨S128x100000x1, .i32⟩) main_call1_v5) (TRef.of (T := ⟨S128x100000, .f32⟩) main_call1_v13) (fun x i => Host.gather gather_S128x100000_S128x100000x1_S128x100000_n_1_0_0_1_2_11 x i),
    TRef.nullary (TRef.of (T := ⟨S_, .f32⟩) main_call1_cst) (constant S_ .f32 0x7FC00000#32),
    TRef.unary (TRef.of (T := ⟨S_, .f32⟩) main_call1_cst) (TRef.of (T := ⟨S128x100000, .f32⟩) main_call1_v14) (broadcastInDim S128x100000 ![] bcast_S_S128x100000),
    TRef.ternary (TRef.of (T := ⟨S128x100000, .i1⟩) main_call1_v12) (TRef.of (T := ⟨S128x100000, .f32⟩) main_call1_v13) (TRef.of (T := ⟨S128x100000, .f32⟩) main_call1_v14) (TRef.of (T := ⟨S128x100000, .f32⟩) main_v2) select,
    nullary main_cst (constant S_ .f32 0xFF800000#32),
    binary main_v2 main_cst main_v3 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    nullary main_cst_0 (constant S_ .f32 0xFF800000#32),
    unary main_cst_0 main_v4 (broadcastInDim S128 ![] bcast_S_S128 : (⟨S_, .f32⟩ : BufTy).Contents (Elt F) → (⟨S128, .f32⟩ : BufTy).Contents (Elt F)) ]

/-- @main's operations 31 … 60 of 108 (window `main_part0`). -/
abbrev ops_part0_1 : List (HloOp τ sig (Elt F)) :=
  [ binary main_v4 main_v3 main_v5 (maximumf : (⟨S128, .f32⟩ : BufTy).Contents (Elt F) → (⟨S128, .f32⟩ : BufTy).Contents (Elt F) → (⟨S128, .f32⟩ : BufTy).Contents (Elt F)),
    unary main_v5 main_v6 (broadcastInDim S128x1 ![0] bcast_S128_S128x1_0 : (⟨S128, .f32⟩ : BufTy).Contents (Elt F) → (⟨S128x1, .f32⟩ : BufTy).Contents (Elt F)),
    unary main_v6 main_v7 (broadcastInDim S128x100000 ![0, 1] bcast_S128x1_S128x100000_0_1 : (⟨S128x1, .f32⟩ : BufTy).Contents (Elt F) → (⟨S128x100000, .f32⟩ : BufTy).Contents (Elt F)),
    binary main_v2 main_v7 main_v8 (subf : (⟨S128x100000, .f32⟩ : BufTy).Contents (Elt F) → (⟨S128x100000, .f32⟩ : BufTy).Contents (Elt F) → (⟨S128x100000, .f32⟩ : BufTy).Contents (Elt F)),
    unary main_v8 main_v9 (Host.exp : (⟨S128x100000, .f32⟩ : BufTy).Contents (Elt F) → (⟨S128x100000, .f32⟩ : BufTy).Contents (Elt F)),
    nullary main_cst_1 (constant S_ .f32 0x00000000#32),
    binary main_v9 main_cst_1 main_v10 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v10 main_v11 (broadcastInDim S128x1 ![0] bcast_S128_S128x1_0 : (⟨S128, .f32⟩ : BufTy).Contents (Elt F) → (⟨S128x1, .f32⟩ : BufTy).Contents (Elt F)),
    unary main_v11 main_v12 (broadcastInDim S128x100000 ![0, 1] bcast_S128x1_S128x100000_0_1 : (⟨S128x1, .f32⟩ : BufTy).Contents (Elt F) → (⟨S128x100000, .f32⟩ : BufTy).Contents (Elt F)),
    binary main_v9 main_v12 main_v13 (Host.divf : (⟨S128x100000, .f32⟩ : BufTy).Contents (Elt F) → (⟨S128x100000, .f32⟩ : BufTy).Contents (Elt F) → (⟨S128x100000, .f32⟩ : BufTy).Contents (Elt F)),
    TRef.nullary (TRef.of (T := ⟨S_, .f32⟩) main_call2_call0_cst) (constant S_ .f32 0x00000000#32),
    TRef.unary (TRef.of (T := ⟨S_, .f32⟩) main_call2_call0_cst) (TRef.of (T := ⟨S_, .f32⟩) main_call2_call0_v0) (broadcastInDim S_ ![] bcast_S_S_),
    TRef.binary (TRef.of (T := ⟨S128x100000, .f32⟩) main_v13) (TRef.of (T := ⟨S_, .f32⟩) main_call2_call0_v0) (TRef.of (T := ⟨S128x100000, .f32⟩) main_v14) (fun x v => Host.reduceWindowAdd ![1, 100000] ![1, 1] ![0, 99999] ![0, 0] x v reduceWindows_S128x100000_S128x100000_w1s1p0_0_w100000s1p99999_0 h_S_),
    nullary main_cst_2 (constant S_ .f32 0x3F733333#32),
    unary main_cst_2 main_v15 (broadcastInDim S128x100000 ![] bcast_S_S128x100000 : (⟨S_, .f32⟩ : BufTy).Contents (Elt F) → (⟨S128x100000, .f32⟩ : BufTy).Contents (Elt F)),
    binary main_v14 main_v15 main_v16 (cmpf .ogt : (⟨S128x100000, .f32⟩ : BufTy).Contents (Elt F) → (⟨S128x100000, .f32⟩ : BufTy).Contents (Elt F) → (⟨S128x100000, .i1⟩ : BufTy).Contents (Elt F)),
    unary main_v16 main_v17 ((extractStridedSlice S128x1 ![0, 0] · slices_S128x100000_S128x1_0_0) : (⟨S128x100000, .i1⟩ : BufTy).Contents (Elt F) → (⟨S128x1, .i1⟩ : BufTy).Contents (Elt F)),
    nullary main_c (constantI S_ 1 0#1),
    unary main_c main_v18 (broadcastInDim S128x1 ![] bcast_S_S128x1 : (⟨S_, .i1⟩ : BufTy).Contents (Elt F) → (⟨S128x1, .i1⟩ : BufTy).Contents (Elt F)),
    unary main_v16 main_v19 ((extractStridedSlice S128x99999 ![0, 0] · slices_S128x100000_S128x99999_0_0) : (⟨S128x100000, .i1⟩ : BufTy).Contents (Elt F) → (⟨S128x99999, .i1⟩ : BufTy).Contents (Elt F)),
    binary main_v18 main_v19 main_v20 (fn_main_v20 (F := F)),
    nullary main_v21 (iotaInDim S128 32 0),
    unary main_v21 main_v22 (broadcastInDim S128x1 ![0] bcast_S128_S128x1_0 : (⟨S128, .i32⟩ : BufTy).Contents (Elt F) → (⟨S128x1, .i32⟩ : BufTy).Contents (Elt F)),
    nullary main_c_3 (constantI S_ 1 0#1),
    unary main_c_3 main_v23 (broadcastInDim S128x100000 ![] bcast_S_S128x100000 : (⟨S_, .i1⟩ : BufTy).Contents (Elt F) → (⟨S128x100000, .i1⟩ : BufTy).Contents (Elt F)),
    nullary main_c_4 (constantI S_ 32 0#32),
    unary main_c_4 main_v24 (broadcastInDim S128x1 ![] bcast_S_S128x1 : (⟨S_, .i32⟩ : BufTy).Contents (Elt F) → (⟨S128x1, .i32⟩ : BufTy).Contents (Elt F)),
    binary main_v22 main_v24 main_v25 (cmpi .slt : (⟨S128x1, .i32⟩ : BufTy).Contents (Elt F) → (⟨S128x1, .i32⟩ : BufTy).Contents (Elt F) → (⟨S128x1, .i1⟩ : BufTy).Contents (Elt F)),
    nullary main_c_5 (constantI S_ 32 128#32),
    unary main_c_5 main_v26 (broadcastInDim S128x1 ![] bcast_S_S128x1 : (⟨S_, .i32⟩ : BufTy).Contents (Elt F) → (⟨S128x1, .i32⟩ : BufTy).Contents (Elt F)) ]

/-- @main's operations 61 … 87 of 108 (window `main_part0`). -/
abbrev ops_part0_2 : List (HloOp τ sig (Elt F)) :=
  [ binary main_v22 main_v26 main_v27 (addi : (⟨S128x1, .i32⟩ : BufTy).Contents (Elt F) → (⟨S128x1, .i32⟩ : BufTy).Contents (Elt F) → (⟨S128x1, .i32⟩ : BufTy).Contents (Elt F)),
    ternary main_v25 main_v27 main_v22 main_v28 (select : (⟨S128x1, .i1⟩ : BufTy).Contents (Elt F) → (⟨S128x1, .i32⟩ : BufTy).Contents (Elt F) → (⟨S128x1, .i32⟩ : BufTy).Contents (Elt F) → (⟨S128x1, .i32⟩ : BufTy).Contents (Elt F)),
    nullary main_c_6 (constantI S_ 32 0#32),
    unary main_c_6 main_v29 (broadcastInDim S128x100000 ![] bcast_S_S128x100000 : (⟨S_, .i32⟩ : BufTy).Contents (Elt F) → (⟨S128x100000, .i32⟩ : BufTy).Contents (Elt F)),
    binary main_v1 main_v29 main_v30 (cmpi .slt : (⟨S128x100000, .i32⟩ : BufTy).Contents (Elt F) → (⟨S128x100000, .i32⟩ : BufTy).Contents (Elt F) → (⟨S128x100000, .i1⟩ : BufTy).Contents (Elt F)),
    nullary main_c_7 (constantI S_ 32 100000#32),
    unary main_c_7 main_v31 (broadcastInDim S128x100000 ![] bcast_S_S128x100000 : (⟨S_, .i32⟩ : BufTy).Contents (Elt F) → (⟨S128x100000, .i32⟩ : BufTy).Contents (Elt F)),
    binary main_v1 main_v31 main_v32 (addi : (⟨S128x100000, .i32⟩ : BufTy).Contents (Elt F) → (⟨S128x100000, .i32⟩ : BufTy).Contents (Elt F) → (⟨S128x100000, .i32⟩ : BufTy).Contents (Elt F)),
    ternary main_v30 main_v32 main_v1 main_v33 (select : (⟨S128x100000, .i1⟩ : BufTy).Contents (Elt F) → (⟨S128x100000, .i32⟩ : BufTy).Contents (Elt F) → (⟨S128x100000, .i32⟩ : BufTy).Contents (Elt F) → (⟨S128x100000, .i32⟩ : BufTy).Contents (Elt F)),
    unary main_v28 main_v34 (broadcastInDim S128x100000 ![0, 1] bcast_S128x1_S128x100000_0_1 : (⟨S128x1, .i32⟩ : BufTy).Contents (Elt F) → (⟨S128x100000, .i32⟩ : BufTy).Contents (Elt F)),
    unary main_v34 main_v35 (broadcastInDim S128x100000x1 ![0, 1] bcast_S128x100000_S128x100000x1_0_1 : (⟨S128x100000, .i32⟩ : BufTy).Contents (Elt F) → (⟨S128x100000x1, .i32⟩ : BufTy).Contents (Elt F)),
    unary main_v33 main_v36 (broadcastInDim S128x100000x1 ![0, 1] bcast_S128x100000_S128x100000x1_0_1 : (⟨S128x100000, .i32⟩ : BufTy).Contents (Elt F) → (⟨S128x100000x1, .i32⟩ : BufTy).Contents (Elt F)),
    binary main_v35 main_v36 main_v37 (fn_main_v37 (F := F)),
    ternary main_v23 main_v37 main_v20 main_v38 ((fun x i u => Host.scatter scatter_S128x100000_S128x100000x2_S128x100000_n_01_01_2 (fun _ b => b) x i u) : (⟨S128x100000, .i1⟩ : BufTy).Contents (Elt F) → (⟨S128x100000x2, .i32⟩ : BufTy).Contents (Elt F) → (⟨S128x100000, .i1⟩ : BufTy).Contents (Elt F) → (⟨S128x100000, .i1⟩ : BufTy).Contents (Elt F)),
    nullary main_cst_8 (constant S_ .f32 0xFF800000#32),
    TRef.unary (TRef.of (T := ⟨S_, .f32⟩) main_cst_8) (TRef.of (T := ⟨S128x100000, .f32⟩) main_call3_v0) (broadcastInDim S128x100000 ![] bcast_S_S128x100000),
    TRef.ternary (TRef.of (T := ⟨S128x100000, .i1⟩) main_v38) (TRef.of (T := ⟨S128x100000, .f32⟩) main_call3_v0) (TRef.of (T := ⟨S128x100000, .f32⟩) main_arg0) (TRef.of (T := ⟨S128x100000, .f32⟩) main_v39) select,
    unary main_v39 main_values ((fun x => (Host.topK S128x64 1 (FloatOps.cmpfTotal .gt) x sliceFits_S128x100000_S128x64).1) : (⟨S128x100000, .f32⟩ : BufTy).Contents (Elt F) → (⟨S128x64, .f32⟩ : BufTy).Contents (Elt F)),
    unary main_v39 main_indices ((fun x => (Host.topK S128x64 1 (FloatOps.cmpfTotal .gt) x sliceFits_S128x100000_S128x64).2) : (⟨S128x100000, .f32⟩ : BufTy).Contents (Elt F) → (⟨S128x64, .i32⟩ : BufTy).Contents (Elt F)),
    unary main_values main_v40 ((extractStridedSlice S128x1 ![0, 63] · slices_S128x64_S128x1_0_63) : (⟨S128x64, .f32⟩ : BufTy).Contents (Elt F) → (⟨S128x1, .f32⟩ : BufTy).Contents (Elt F)),
    unary main_v40 main_v41 (broadcastInDim S128x100000 ![0, 1] bcast_S128x1_S128x100000_0_1 : (⟨S128x1, .f32⟩ : BufTy).Contents (Elt F) → (⟨S128x100000, .f32⟩ : BufTy).Contents (Elt F)),
    binary main_v39 main_v41 main_v42 (cmpf .olt : (⟨S128x100000, .f32⟩ : BufTy).Contents (Elt F) → (⟨S128x100000, .f32⟩ : BufTy).Contents (Elt F) → (⟨S128x100000, .i1⟩ : BufTy).Contents (Elt F)),
    nullary main_cst_9 (constant S_ .f32 0xFF800000#32),
    TRef.unary (TRef.of (T := ⟨S_, .f32⟩) main_cst_9) (TRef.of (T := ⟨S128x100000, .f32⟩) main_call4_v0) (broadcastInDim S128x100000 ![] bcast_S_S128x100000),
    TRef.ternary (TRef.of (T := ⟨S128x100000, .i1⟩) main_v42) (TRef.of (T := ⟨S128x100000, .f32⟩) main_call4_v0) (TRef.of (T := ⟨S128x100000, .f32⟩) main_v39) (TRef.of (T := ⟨S128x100000, .f32⟩) main_v43) select,
    nullary main_cst_10 (constant S_ .f32 0xFF800000#32),
    binary main_v43 main_cst_10 main_v44 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)) ]

/-- Window `main_part0`'s operations. Not an abbreviation: `main_eq` below splits `ops` into the windows and no further. -/
def ops_part0 : List (HloOp τ sig (Elt F)) :=
  ops_part0_0 ++ (ops_part0_1 ++ (ops_part0_2))

/-- @main's operations 88 … 108 of 108 (window `main_part1`). -/
abbrev ops_part1 : List (HloOp τ sig (Elt F)) :=
  [ nullary main_cst_11 (constant S_ .f32 0xFF800000#32),
    unary main_cst_11 main_v45 (broadcastInDim S128 ![] bcast_S_S128 : (⟨S_, .f32⟩ : BufTy).Contents (Elt F) → (⟨S128, .f32⟩ : BufTy).Contents (Elt F)),
    binary main_v45 main_v44 main_v46 (maximumf : (⟨S128, .f32⟩ : BufTy).Contents (Elt F) → (⟨S128, .f32⟩ : BufTy).Contents (Elt F) → (⟨S128, .f32⟩ : BufTy).Contents (Elt F)),
    unary main_v46 main_v47 (broadcastInDim S128x1 ![0] bcast_S128_S128x1_0 : (⟨S128, .f32⟩ : BufTy).Contents (Elt F) → (⟨S128x1, .f32⟩ : BufTy).Contents (Elt F)),
    unary main_v47 main_v48 (broadcastInDim S128x100000 ![0, 1] bcast_S128x1_S128x100000_0_1 : (⟨S128x1, .f32⟩ : BufTy).Contents (Elt F) → (⟨S128x100000, .f32⟩ : BufTy).Contents (Elt F)),
    binary main_v43 main_v48 main_v49 (subf : (⟨S128x100000, .f32⟩ : BufTy).Contents (Elt F) → (⟨S128x100000, .f32⟩ : BufTy).Contents (Elt F) → (⟨S128x100000, .f32⟩ : BufTy).Contents (Elt F)),
    unary main_v49 main_v50 (Host.exp : (⟨S128x100000, .f32⟩ : BufTy).Contents (Elt F) → (⟨S128x100000, .f32⟩ : BufTy).Contents (Elt F)),
    nullary main_cst_12 (constant S_ .f32 0x00000000#32),
    binary main_v50 main_cst_12 main_v51 ((fun x v => Host.reduceAdd x v reducesTo_S128x100000_S128_d1 h_S_) : (⟨S128x100000, .f32⟩ : BufTy).Contents (Elt F) → (⟨S_, .f32⟩ : BufTy).Contents (Elt F) → (⟨S128, .f32⟩ : BufTy).Contents (Elt F)),
    unary main_v51 main_v52 (broadcastInDim S128x1 ![0] bcast_S128_S128x1_0 : (⟨S128, .f32⟩ : BufTy).Contents (Elt F) → (⟨S128x1, .f32⟩ : BufTy).Contents (Elt F)),
    unary main_v52 main_v53 (broadcastInDim S128x100000 ![0, 1] bcast_S128x1_S128x100000_0_1 : (⟨S128x1, .f32⟩ : BufTy).Contents (Elt F) → (⟨S128x100000, .f32⟩ : BufTy).Contents (Elt F)),
    binary main_v50 main_v53 main_v54 (Host.divf : (⟨S128x100000, .f32⟩ : BufTy).Contents (Elt F) → (⟨S128x100000, .f32⟩ : BufTy).Contents (Elt F) → (⟨S128x100000, .f32⟩ : BufTy).Contents (Elt F)),
    nullary main_cst_13 (constant S_ .f32 0xFF800000#32),
    binary main_v54 main_cst_13 main_v55 ((fun x v => Host.reduce FloatOps.maximumf x v reducesTo_S128x100000_S128_d1 h_S_) : (⟨S128x100000, .f32⟩ : BufTy).Contents (Elt F) → (⟨S_, .f32⟩ : BufTy).Contents (Elt F) → (⟨S128, .f32⟩ : BufTy).Contents (Elt F)),
    TRef.nullary (TRef.of (T := ⟨S128x100000, .i32⟩) main_call5_v0) (iotaInDim S128x100000 32 1),
    TRef.nullary (TRef.of (T := ⟨S_, .f32⟩) main_call5_cst) (constant S_ .f32 0xFF800000#32),
    TRef.nullary (TRef.of (T := ⟨S_, .i32⟩) main_call5_c) (constantI S_ 32 0#32),
    TRef.quaternary (TRef.of (T := ⟨S128x100000, .f32⟩) main_v54) (TRef.of (T := ⟨S128x100000, .i32⟩) main_call5_v0) (TRef.of (T := ⟨S_, .f32⟩) main_call5_cst) (TRef.of (T := ⟨S_, .i32⟩) main_call5_c) (TRef.of (T := ⟨S128, .f32⟩) main_call5_v1_0) (fun x y u v j => (Host.argReduce reducer_argmax_f32_i32 x y u v reducesTo_S128x100000_S128_d1 h_S_ j).1),
    TRef.quaternary (TRef.of (T := ⟨S128x100000, .f32⟩) main_v54) (TRef.of (T := ⟨S128x100000, .i32⟩) main_call5_v0) (TRef.of (T := ⟨S_, .f32⟩) main_call5_cst) (TRef.of (T := ⟨S_, .i32⟩) main_call5_c) (TRef.of (T := ⟨S128, .i32⟩) main_v56) (fun x y u v j => (Host.argReduce reducer_argmax_f32_i32 x y u v reducesTo_S128x100000_S128_d1 h_S_ j).2),
    unary main_v55 main_v57 (broadcastInDim S128x1 ![0] bcast_S128_S128x1_0 : (⟨S128, .f32⟩ : BufTy).Contents (Elt F) → (⟨S128x1, .f32⟩ : BufTy).Contents (Elt F)),
    unary main_v56 main_v58 (broadcastInDim S128x1 ![0] bcast_S128_S128x1_0 : (⟨S128, .i32⟩ : BufTy).Contents (Elt F) → (⟨S128x1, .i32⟩ : BufTy).Contents (Elt F)) ]

/-- @main's 108 operations, in order (a called function's operations stand in its call's place, spelt `TRef.…`). -/
abbrev ops : List (HloOp τ sig (Elt F)) :=
  ops_part0 ++ (ops_part1)

set_option maxRecDepth 8192 in
set_option maxHeartbeats 4000000 in
theorem main_part0_eq (c : Dev nD) : main_part0 (F := F) c = seq ops_part0 := rfl
set_option maxRecDepth 8192 in
theorem main_part1_eq (c : Dev nD) : main_part1 (F := F) c = seq ops_part1 := rfl
set_option maxRecDepth 8192 in
theorem main_eq (c : Dev nD) : main (F := F) c = seq ops := by
  simp only [ops, seq_append, ← main_part0_eq c, ← main_part1_eq c]
  rfl
/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide
set_option maxRecDepth 8192 in
theorem ops_part0_0_sub : (ops_part0_0 : List (HloOp τ sig (Elt F))).Forall fun op => op.bufs ⊆ tcRefs τ sig :=
  ⟨unary_bufs_sub .., nullary_bufs_sub .., binary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., nullary_bufs_sub .., binary_bufs_sub .., nullary_bufs_sub .., unary_bufs_sub ..⟩
set_option maxRecDepth 8192 in
theorem ops_part0_0_fresh : (ops_part0_0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_1_sub : (ops_part0_1 : List (HloOp τ sig (Elt F))).Forall fun op => op.bufs ⊆ tcRefs τ sig :=
  ⟨binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., binary_bufs_sub .., nullary_bufs_sub .., unary_bufs_sub .., nullary_bufs_sub .., unary_bufs_sub .., nullary_bufs_sub .., unary_bufs_sub .., binary_bufs_sub .., nullary_bufs_sub .., unary_bufs_sub ..⟩
set_option maxRecDepth 8192 in
theorem ops_part0_1_fresh : (ops_part0_1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part0_2_sub : (ops_part0_2 : List (HloOp τ sig (Elt F))).Forall fun op => op.bufs ⊆ tcRefs τ sig :=
  ⟨binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., nullary_bufs_sub .., unary_bufs_sub .., ternary_bufs_sub .., unary_bufs_sub .., unary_bufs_sub .., unary_bufs_sub .., unary_bufs_sub .., binary_bufs_sub .., nullary_bufs_sub .., unary_bufs_sub .., ternary_bufs_sub .., nullary_bufs_sub .., binary_bufs_sub ..⟩
set_option maxRecDepth 8192 in
theorem ops_part0_2_fresh : (ops_part0_2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
set_option maxRecDepth 8192 in
theorem ops_part1_sub : (ops_part1 : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., binary_bufs_sub .., nullary_bufs_sub .., nullary_bufs_sub .., nullary_bufs_sub .., quaternary_bufs_sub .., quaternary_bufs_sub .., unary_bufs_sub .., unary_bufs_sub ..⟩
set_option maxRecDepth 8192 in
theorem ops_part1_fresh : (ops_part1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
/-- Every operation reads and writes the buffers of the core. -/
theorem ops_sub : (ops : List (HloOp τ sig (Elt F))).Forall fun op => op.bufs ⊆ tcRefs τ sig :=
  List.forall_iff_forall_mem.mpr fun op h => by
    simp only [ops, ops_part0, List.mem_append, or_assoc] at h
    rcases h with h | h | h | h
    exacts [List.forall_iff_forall_mem.mp ops_part0_0_sub op h, List.forall_iff_forall_mem.mp ops_part0_1_sub op h, List.forall_iff_forall_mem.mp ops_part0_2_sub op h, List.forall_iff_forall_mem.mp ops_part1_sub op h]
/-- No operation makes a buffer of its own. -/
theorem ops_fresh : ∀ op ∈ (ops : List (HloOp τ sig (Elt F))), op.fresh = ∅ := fun op h => by
    simp only [ops, ops_part0, List.mem_append, or_assoc] at h
    rcases h with h | h | h | h
    exacts [List.forall_iff_forall_mem.mp ops_part0_0_fresh op h, List.forall_iff_forall_mem.mp ops_part0_1_fresh op h, List.forall_iff_forall_mem.mp ops_part0_2_fresh op h, List.forall_iff_forall_mem.mp ops_part1_fresh op h]

set_option maxRecDepth 8192 in
/-- `main_v0`'s composed term of the arguments (named: it is used 2 times). -/
def res_main_v0 (V0 : Valuation τ sig (Elt F)) : (Proc.devRef .tc main_v0 : DevRef τ sig).ty.Contents (Elt F) :=
  Host.negf (V0 (Proc.devRef .tc main_arg0))

set_option maxRecDepth 8192 in
/-- `main_call0_v0`'s composed term of the arguments (named: it is used 2 times). -/
def res_main_call0_v0 (V0 : Valuation τ sig (Elt F)) : (Proc.devRef .tc main_call0_v0 : DevRef τ sig).ty.Contents (Elt F) :=
  iotaInDim S128x100000 32 1

set_option maxRecDepth 8192 in
/-- `main_v1`'s composed term of the arguments (named: it is used 6 times). -/
def res_main_v1 (V0 : Valuation τ sig (Elt F)) : (Proc.devRef .tc main_v1 : DevRef τ sig).ty.Contents (Elt F) :=
  (Host.sort2 S128x100000 1 comparator_f32_i32_d1 (res_main_v0 V0) (res_main_call0_v0 V0)).2

set_option maxRecDepth 8192 in
/-- `main_call1_v5`'s composed term of the arguments (named: it is used 3 times). -/
def res_main_call1_v5 (V0 : Valuation τ sig (Elt F)) : (Proc.devRef .tc main_call1_v5 : DevRef τ sig).ty.Contents (Elt F) :=
  shapeCast _ (select (cmpi .slt (res_main_v1 V0) (broadcastInDim S128x100000 ![] bcast_S_S128x100000 (constantI S_ 32 0#32))) (addi (res_main_v1 V0) (broadcastInDim S128x100000 ![] bcast_S_S128x100000 (constantI S_ 32 100000#32))) (res_main_v1 V0)) shapeCasts_S128x100000_S128x100000x1

set_option maxRecDepth 8192 in
/-- `main_v2`'s composed term of the arguments (named: it is used 2 times). -/
def res_main_v2 (V0 : Valuation τ sig (Elt F)) : (Proc.devRef .tc main_v2 : DevRef τ sig).ty.Contents (Elt F) :=
  select (Host.reduce IntOp.andi (andi (cmpi .sge (res_main_call1_v5 V0) (broadcastInDim S128x100000x1 ![] bcast_S_S128x100000x1 (constantI S_ 32 0#32))) (cmpi .sle (res_main_call1_v5 V0) (broadcastInDim S128x100000x1 ![0, 1, 2] bcast_S1x1x1_S128x100000x1_0_1_2 (broadcastInDim S1x1x1 ![2] bcast_S1_S1x1x1_2 (constantI S1 32 99999#32))))) (constantI S_ 1 1#1) reducesTo_S128x100000x1_S128x100000_d2 h_S_) (Host.gather gather_S128x100000_S128x100000x1_S128x100000_n_1_0_0_1_2_11 (V0 (Proc.devRef .tc main_arg0)) (res_main_call1_v5 V0)) (broadcastInDim S128x100000 ![] bcast_S_S128x100000 (constant S_ .f32 0x7FC00000#32))

set_option maxRecDepth 8192 in
/-- `main_v9`'s composed term of the arguments (named: it is used 2 times). -/
def res_main_v9 (V0 : Valuation τ sig (Elt F)) : (Proc.devRef .tc main_v9 : DevRef τ sig).ty.Contents (Elt F) :=
  Host.exp (subf (res_main_v2 V0) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (res_main_v2 V0) (constant S_ .f32 0xFF800000#32) reducesTo_S128x100000_S128_d1 h_S_)))))

set_option maxRecDepth 8192 in
/-- `main_v16`'s composed term of the arguments (named: it is used 2 times). -/
def res_main_v16 (V0 : Valuation τ sig (Elt F)) : (Proc.devRef .tc main_v16 : DevRef τ sig).ty.Contents (Elt F) :=
  cmpf .ogt (Host.reduceWindowAdd ![1, 100000] ![1, 1] ![0, 99999] ![0, 0] (Host.divf (res_main_v9 V0) (broadcastInDim S128x100000 ![0, 1] bcast_S128x1_S128x100000_0_1 (broadcastInDim S128x1 ![0] bcast_S128_S128x1_0 (Host.reduceAdd (res_main_v9 V0) (constant S_ .f32 0x00000000#32) reducesTo_S128x100000_S128_d1 h_S_)))) (broadcastInDim S_ ![] bcast_S_S_ (constant S_ .f32 0x00000000#32)) reduceWindows_S128x100000_S128x100000_w1s1p0_0_w100000s1p99999_0 h_S_) (broadcastInDim S128x100000 ![] bcast_S_S128x100000 (constant S_ .f32 0x3F733333#32))

set_option maxRecDepth 8192 in
/-- `main_v22`'s composed term of the arguments (named: it is used 3 times). -/
def res_main_v22 (V0 : Valuation τ sig (Elt F)) : (Proc.devRef .tc main_v22 : DevRef τ sig).ty.Contents (Elt F) :=
  broadcastInDim S128x1 ![0] bcast_S128_S128x1_0 (iotaInDim S128 32 0)

set_option maxRecDepth 8192 in
/-- `main_v39`'s composed term of the arguments (named: it is used 4 times). -/
def res_main_v39 (V0 : Valuation τ sig (Elt F)) : (Proc.devRef .tc main_v39 : DevRef τ sig).ty.Contents (Elt F) :=
  select (Host.scatter scatter_S128x100000_S128x100000x2_S128x100000_n_01_01_2 (fun _ b => b) (broadcastInDim S128x100000 ![] bcast_S_S128x100000 (constantI S_ 1 0#1)) (concatenate S128x100000x2 2 [⟨S128x100000x1, (broadcastInDim S128x100000x1 ![0, 1] bcast_S128x100000_S128x100000x1_0_1 (broadcastInDim S128x100000 ![0, 1] bcast_S128x1_S128x100000_0_1 (select (cmpi .slt (res_main_v22 V0) (broadcastInDim S128x1 ![] bcast_S_S128x1 (constantI S_ 32 0#32))) (addi (res_main_v22 V0) (broadcastInDim S128x1 ![] bcast_S_S128x1 (constantI S_ 32 128#32))) (res_main_v22 V0))))⟩, ⟨S128x100000x1, (broadcastInDim S128x100000x1 ![0, 1] bcast_S128x100000_S128x100000x1_0_1 (select (cmpi .slt (res_main_v1 V0) (broadcastInDim S128x100000 ![] bcast_S_S128x100000 (constantI S_ 32 0#32))) (addi (res_main_v1 V0) (broadcastInDim S128x100000 ![] bcast_S_S128x100000 (constantI S_ 32 100000#32))) (res_main_v1 V0)))⟩] concatenates_S128x100000x1_S128x100000x1_S128x100000x2_d2) (concatenate S128x100000 1 [⟨S128x1, (broadcastInDim S128x1 ![] bcast_S_S128x1 (constantI S_ 1 0#1))⟩, ⟨S128x99999, (extractStridedSlice S128x99999 ![0, 0] (res_main_v16 V0) slices_S128x100000_S128x99999_0_0)⟩] concatenates_S128x1_S128x99999_S128x100000_d1)) (broadcastInDim S128x100000 ![] bcast_S_S128x100000 (constant S_ .f32 0xFF800000#32)) (V0 (Proc.devRef .tc main_arg0))

set_option maxRecDepth 8192 in
/-- `main_v43`'s composed term of the arguments (named: it is used 2 times). -/
def res_main_v43 (V0 : Valuation τ sig (Elt F)) : (Proc.devRef .tc main_v43 : DevRef τ sig).ty.Contents (Elt F) :=
  select (cmpf .olt (res_main_v39 V0) (broadcastInDim S128x100000 ![0, 1] bcast_S128x1_S128x100000_0_1 (extractStridedSlice S128x1 ![0, 63] ((Host.topK S128x64 1 (FloatOps.cmpfTotal .gt) (res_main_v39 V0) sliceFits_S128x100000_S128x64).1) slices_S128x64_S128x1_0_63))) (broadcastInDim S128x100000 ![] bcast_S_S128x100000 (constant S_ .f32 0xFF800000#32)) (res_main_v39 V0)

set_option maxRecDepth 8192 in
/-- `main_v50`'s composed term of the arguments (named: it is used 2 times). -/
def res_main_v50 (V0 : Valuation τ sig (Elt F)) : (Proc.devRef .tc main_v50 : DevRef τ sig).ty.Contents (Elt F) :=
  Host.exp (subf (res_main_v43 V0) (broadcastInDim S128x100000 ![0, 1] bcast_S128x1_S128x100000_0_1 (broadcastInDim S128x1 ![0] bcast_S128_S128x1_0 (maximumf (broadcastInDim S128 ![] bcast_S_S128 (constant S_ .f32 0xFF800000#32)) (Host.reduce FloatOps.maximumf (res_main_v43 V0) (constant S_ .f32 0xFF800000#32) reducesTo_S128x100000_S128_d1 h_S_)))))

set_option maxRecDepth 8192 in
/-- `main_v54`'s composed term of the arguments (named: it is used 3 times). -/
def res_main_v54 (V0 : Valuation τ sig (Elt F)) : (Proc.devRef .tc main_v54 : DevRef τ sig).ty.Contents (Elt F) :=
  Host.divf (res_main_v50 V0) (broadcastInDim S128x100000 ![0, 1] bcast_S128x1_S128x100000_0_1 (broadcastInDim S128x1 ![0] bcast_S128_S128x1_0 (Host.reduceAdd (res_main_v50 V0) (constant S_ .f32 0x00000000#32) reducesTo_S128x100000_S128_d1 h_S_)))

/-- `main_v56`'s composed term of the arguments: per row, the column that the argmax reduction ends with. -/
def res_main_v56 (V0 : Valuation τ sig (Elt F)) : (Proc.devRef .tc main_v56 : DevRef τ sig).ty.Contents (Elt F) :=
  fun j => (Host.argReduce reducer_argmax_f32_i32 (res_main_v54 V0) (iotaInDim S128x100000 32 1) (constant S_ .f32 0xFF800000#32) (constantI S_ 32 0#32) reducesTo_S128x100000_S128_d1 h_S_ j).2

/-- The device's buffer contents before @main's first window. -/
def val0 (V0 : Valuation τ sig (Elt F)) : Valuation τ sig (Elt F) := V0
/-- Before the first window the argument is as launched. -/
theorem val0_main_arg0 (V0 : Valuation τ sig (Elt F)) : val0 V0 (no_index (Proc.devRef .tc main_arg0)) = V0 (Proc.devRef .tc main_arg0) := rfl

/-- The device's buffer contents after @main's first 30 operations. -/
def val0_1 (V0 : Valuation τ sig (Elt F)) : Valuation τ sig (Elt F) := after ops_part0_0 (val0 V0)
/-- The buffers that window `ops_part0_0`'s operations write. -/
abbrev ops_part0_0_W : List (Ref sig .tc) := [main_v0, main_call0_v0, main_call0_v1_0, main_v1, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v2, main_cst, main_v3, main_cst_0, main_v4]
set_option maxRecDepth 8192 in
theorem ops_part0_0_writes : (ops_part0_0 : List (HloOp τ sig (Elt F))).Forall fun op => op.writes ⊆ (ops_part0_0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_0` does not write keeps its contents through it. -/
theorem val0_1_keep (V0 : Valuation τ sig (Elt F)) (r : Ref sig .tc) (h : r ∉ ops_part0_0_W) :
    val0_1 V0 (Proc.devRef .tc r) = val0 V0 (Proc.devRef .tc r) :=
  after_of_writes_sub ops_part0_0 _ ops_part0_0_writes h
/-- The argument is unchanged. -/
theorem val0_1_main_arg0 (V0 : Valuation τ sig (Elt F)) : val0_1 V0 (no_index (Proc.devRef .tc main_arg0)) = V0 (Proc.devRef .tc main_arg0) :=
  (val0_1_keep V0 main_arg0 (by decide)).trans (val0_main_arg0 V0)
set_option maxRecDepth 8192 in
set_option maxHeartbeats 2000000 in
theorem val0_1_main_v1 (V0 : Valuation τ sig (Elt F)) : val0_1 V0 (no_index (Proc.devRef .tc main_v1)) = res_main_v1 V0 := by
  unfold val0_1
  simp only [ops_part0_0, TRef.binary, TRef.nullary, TRef.reshape, TRef.ternary, TRef.unary, TRef.toBuf, TRef.ofBuf, cast_eq]
  after_results_simp
  simp only [val0_main_arg0] <;> rfl
set_option maxRecDepth 8192 in
set_option maxHeartbeats 2000000 in
theorem val0_1_main_v2 (V0 : Valuation τ sig (Elt F)) : val0_1 V0 (no_index (Proc.devRef .tc main_v2)) = res_main_v2 V0 := by
  unfold val0_1
  simp only [ops_part0_0, TRef.binary, TRef.nullary, TRef.reshape, TRef.ternary, TRef.unary, TRef.toBuf, TRef.ofBuf, cast_eq]
  after_results_simp
  simp only [val0_main_arg0] <;> rfl
set_option maxRecDepth 8192 in
set_option maxHeartbeats 2000000 in
theorem val0_1_main_v3 (V0 : Valuation τ sig (Elt F)) : val0_1 V0 (no_index (Proc.devRef .tc main_v3)) = Host.reduce FloatOps.maximumf (res_main_v2 V0) (constant S_ .f32 0xFF800000#32) reducesTo_S128x100000_S128_d1 h_S_ := by
  unfold val0_1
  simp only [ops_part0_0, TRef.binary, TRef.nullary, TRef.reshape, TRef.ternary, TRef.unary, TRef.toBuf, TRef.ofBuf, cast_eq]
  after_results_simp
  simp only [val0_main_arg0] <;> rfl
set_option maxRecDepth 8192 in
set_option maxHeartbeats 2000000 in
theorem val0_1_main_v4 (V0 : Valuation τ sig (Elt F)) : val0_1 V0 (no_index (Proc.devRef .tc main_v4)) = broadcastInDim S128 ![] bcast_S_S128 (constant S_ .f32 0xFF800000#32) := by
  unfold val0_1
  simp only [ops_part0_0, TRef.binary, TRef.nullary, TRef.reshape, TRef.ternary, TRef.unary, TRef.toBuf, TRef.ofBuf, cast_eq]
  after_results_simp
  all_goals rfl

/-- The device's buffer contents after @main's first 60 operations. -/
def val0_2 (V0 : Valuation τ sig (Elt F)) : Valuation τ sig (Elt F) := after ops_part0_1 (val0_1 V0)
/-- The buffers that window `ops_part0_1`'s operations write. -/
abbrev ops_part0_1_W : List (Ref sig .tc) := [main_v5, main_v6, main_v7, main_v8, main_v9, main_cst_1, main_v10, main_v11, main_v12, main_v13, main_call2_call0_cst, main_call2_call0_v0, main_v14, main_cst_2, main_v15, main_v16, main_v17, main_c, main_v18, main_v19, main_v20, main_v21, main_v22, main_c_3, main_v23, main_c_4, main_v24, main_v25, main_c_5, main_v26]
set_option maxRecDepth 8192 in
theorem ops_part0_1_writes : (ops_part0_1 : List (HloOp τ sig (Elt F))).Forall fun op => op.writes ⊆ (ops_part0_1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_1` does not write keeps its contents through it. -/
theorem val0_2_keep (V0 : Valuation τ sig (Elt F)) (r : Ref sig .tc) (h : r ∉ ops_part0_1_W) :
    val0_2 V0 (Proc.devRef .tc r) = val0_1 V0 (Proc.devRef .tc r) :=
  after_of_writes_sub ops_part0_1 _ ops_part0_1_writes h
/-- The argument is unchanged. -/
theorem val0_2_main_arg0 (V0 : Valuation τ sig (Elt F)) : val0_2 V0 (no_index (Proc.devRef .tc main_arg0)) = V0 (Proc.devRef .tc main_arg0) :=
  (val0_2_keep V0 main_arg0 (by decide)).trans (val0_1_main_arg0 V0)
/-- The order is kept. -/
theorem val0_2_main_v1 (V0 : Valuation τ sig (Elt F)) : val0_2 V0 (no_index (Proc.devRef .tc main_v1)) = res_main_v1 V0 :=
  (val0_2_keep V0 main_v1 (by decide)).trans (val0_1_main_v1 V0)
set_option maxRecDepth 8192 in
set_option maxHeartbeats 2000000 in
theorem val0_2_main_v20 (V0 : Valuation τ sig (Elt F)) : val0_2 V0 (no_index (Proc.devRef .tc main_v20)) = concatenate S128x100000 1 [⟨S128x1, (broadcastInDim S128x1 ![] bcast_S_S128x1 (constantI S_ 1 0#1))⟩, ⟨S128x99999, (extractStridedSlice S128x99999 ![0, 0] (res_main_v16 V0) slices_S128x100000_S128x99999_0_0)⟩] concatenates_S128x1_S128x99999_S128x100000_d1 := by
  unfold val0_2
  simp only [ops_part0_1, TRef.binary, TRef.nullary, TRef.unary, TRef.toBuf, TRef.ofBuf, cast_eq]
  after_results_simp
  simp only [val0_1_main_v3, val0_1_main_v4, val0_1_main_v2] <;> rfl
set_option maxRecDepth 8192 in
set_option maxHeartbeats 2000000 in
theorem val0_2_main_v22 (V0 : Valuation τ sig (Elt F)) : val0_2 V0 (no_index (Proc.devRef .tc main_v22)) = res_main_v22 V0 := by
  unfold val0_2
  simp only [ops_part0_1, TRef.binary, TRef.nullary, TRef.unary, TRef.toBuf, TRef.ofBuf, cast_eq]
  after_results_simp
  all_goals rfl
set_option maxRecDepth 8192 in
set_option maxHeartbeats 2000000 in
theorem val0_2_main_v23 (V0 : Valuation τ sig (Elt F)) : val0_2 V0 (no_index (Proc.devRef .tc main_v23)) = broadcastInDim S128x100000 ![] bcast_S_S128x100000 (constantI S_ 1 0#1) := by
  unfold val0_2
  simp only [ops_part0_1, TRef.binary, TRef.nullary, TRef.unary, TRef.toBuf, TRef.ofBuf, cast_eq]
  after_results_simp
  all_goals rfl
set_option maxRecDepth 8192 in
set_option maxHeartbeats 2000000 in
theorem val0_2_main_v25 (V0 : Valuation τ sig (Elt F)) : val0_2 V0 (no_index (Proc.devRef .tc main_v25)) = cmpi .slt (res_main_v22 V0) (broadcastInDim S128x1 ![] bcast_S_S128x1 (constantI S_ 32 0#32)) := by
  unfold val0_2
  simp only [ops_part0_1, TRef.binary, TRef.nullary, TRef.unary, TRef.toBuf, TRef.ofBuf, cast_eq]
  after_results_simp
  all_goals rfl
set_option maxRecDepth 8192 in
set_option maxHeartbeats 2000000 in
theorem val0_2_main_v26 (V0 : Valuation τ sig (Elt F)) : val0_2 V0 (no_index (Proc.devRef .tc main_v26)) = broadcastInDim S128x1 ![] bcast_S_S128x1 (constantI S_ 32 128#32) := by
  unfold val0_2
  simp only [ops_part0_1, TRef.binary, TRef.nullary, TRef.unary, TRef.toBuf, TRef.ofBuf, cast_eq]
  after_results_simp
  all_goals rfl

/-- The device's buffer contents after @main's first 1 window. -/
def val1 (V0 : Valuation τ sig (Elt F)) : Valuation τ sig (Elt F) := after ops_part0_2 (val0_2 V0)
/-- The buffers that window `ops_part0_2`'s operations write. -/
abbrev ops_part0_2_W : List (Ref sig .tc) := [main_v27, main_v28, main_c_6, main_v29, main_v30, main_c_7, main_v31, main_v32, main_v33, main_v34, main_v35, main_v36, main_v37, main_v38, main_cst_8, main_call3_v0, main_v39, main_values, main_indices, main_v40, main_v41, main_v42, main_cst_9, main_call4_v0, main_v43, main_cst_10, main_v44]
set_option maxRecDepth 8192 in
theorem ops_part0_2_writes : (ops_part0_2 : List (HloOp τ sig (Elt F))).Forall fun op => op.writes ⊆ (ops_part0_2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `ops_part0_2` does not write keeps its contents through it. -/
theorem val1_keep (V0 : Valuation τ sig (Elt F)) (r : Ref sig .tc) (h : r ∉ ops_part0_2_W) :
    val1 V0 (Proc.devRef .tc r) = val0_2 V0 (Proc.devRef .tc r) :=
  after_of_writes_sub ops_part0_2 _ ops_part0_2_writes h
/-- The argument is unchanged. -/
theorem val1_main_arg0 (V0 : Valuation τ sig (Elt F)) : val1 V0 (no_index (Proc.devRef .tc main_arg0)) = V0 (Proc.devRef .tc main_arg0) :=
  (val1_keep V0 main_arg0 (by decide)).trans (val0_2_main_arg0 V0)
set_option maxRecDepth 8192 in
set_option maxHeartbeats 2000000 in
theorem val1_main_v43 (V0 : Valuation τ sig (Elt F)) : val1 V0 (no_index (Proc.devRef .tc main_v43)) = res_main_v43 V0 := by
  unfold val1
  simp only [ops_part0_2, TRef.ternary, TRef.unary, TRef.toBuf, TRef.ofBuf, cast_eq]
  after_results_simp
  simp only [val0_2_main_arg0, val0_2_main_v20, val0_2_main_v1, val0_2_main_v22, val0_2_main_v26, val0_2_main_v25, val0_2_main_v23] <;> rfl
set_option maxRecDepth 8192 in
set_option maxHeartbeats 2000000 in
theorem val1_main_v44 (V0 : Valuation τ sig (Elt F)) : val1 V0 (no_index (Proc.devRef .tc main_v44)) = Host.reduce FloatOps.maximumf (res_main_v43 V0) (constant S_ .f32 0xFF800000#32) reducesTo_S128x100000_S128_d1 h_S_ := by
  unfold val1
  simp only [ops_part0_2, TRef.ternary, TRef.unary, TRef.toBuf, TRef.ofBuf, cast_eq]
  after_results_simp
  simp only [val0_2_main_arg0, val0_2_main_v20, val0_2_main_v1, val0_2_main_v22, val0_2_main_v26, val0_2_main_v25, val0_2_main_v23] <;> rfl

/-- The device's buffer contents after @main's first 2 windows. -/
def val2 (V0 : Valuation τ sig (Elt F)) : Valuation τ sig (Elt F) := after ops_part1 (val1 V0)
/-- The buffers that window `main_part1`'s operations write. -/
abbrev ops_part1_W : List (Ref sig .tc) := [main_cst_11, main_v45, main_v46, main_v47, main_v48, main_v49, main_v50, main_cst_12, main_v51, main_v52, main_v53, main_v54, main_cst_13, main_v55, main_call5_v0, main_call5_cst, main_call5_c, main_call5_v1_0, main_v56, main_v57, main_v58]
set_option maxRecDepth 8192 in
theorem ops_part1_writes : (ops_part1 : List (HloOp τ sig (Elt F))).Forall fun op => op.writes ⊆ (ops_part1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `main_part1` does not write keeps its contents through it. -/
theorem val2_keep (V0 : Valuation τ sig (Elt F)) (r : Ref sig .tc) (h : r ∉ ops_part1_W) :
    val2 V0 (Proc.devRef .tc r) = val1 V0 (Proc.devRef .tc r) :=
  after_of_writes_sub ops_part1 _ ops_part1_writes h
/-- The argument is unchanged at the end. -/
theorem val2_main_arg0 (V0 : Valuation τ sig (Elt F)) : val2 V0 (no_index (Proc.devRef .tc main_arg0)) = V0 (Proc.devRef .tc main_arg0) :=
  (val2_keep V0 main_arg0 (by decide)).trans (val1_main_arg0 V0)
set_option maxRecDepth 8192 in
set_option maxHeartbeats 1900000 in
theorem val2_main_v57 (V0 : Valuation τ sig (Elt F)) : val2 V0 (no_index (Proc.devRef .tc main_v57)) = broadcastInDim S128x1 ![0] bcast_S128_S128x1_0 (Host.reduce FloatOps.maximumf (res_main_v54 V0) (constant S_ .f32 0xFF800000#32) reducesTo_S128x100000_S128_d1 h_S_) := by
  unfold val2
  simp only [ops_part1, TRef.nullary, TRef.quaternary, TRef.toBuf, TRef.ofBuf, cast_eq]
  after_results_simp
  simp only [val1_main_v44, val1_main_v43] <;> rfl
set_option maxRecDepth 8192 in
set_option maxHeartbeats 1900000 in
theorem val2_main_v58 (V0 : Valuation τ sig (Elt F)) : val2 V0 (no_index (Proc.devRef .tc main_v58)) = broadcastInDim S128x1 ![0] bcast_S128_S128x1_0 (res_main_v56 V0) := by
  unfold val2
  simp only [ops_part1, TRef.nullary, TRef.quaternary, TRef.toBuf, TRef.ofBuf, cast_eq]
  after_results_simp
  simp only [val1_main_v44, val1_main_v43] <;> rfl

/-- The whole list leaves what its last window leaves. -/
theorem after_ops (V0 : Valuation τ sig (Elt F)) : after ops V0 = val2 V0 := by
  simp only [ops, ops_part0, after_append]
  rfl

set_option maxRecDepth 8192 in
/-- On every device, for any float values, from any memory with zero counters: every weakly fair execution of
    @main terminates with each result at the operations' composed term of the arguments and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v57) = broadcastInDim S128x1 ![0] bcast_S128_S128x1_0 (Host.reduce FloatOps.maximumf (res_main_v54 (launchContents m c)) (constant S_ .f32 0xFF800000#32) reducesTo_S128x100000_S128_d1 h_S_)
      ∧ r.2.mem ((c.tc : Thread nD τ).loc main_v58) = broadcastInDim S128x1 ![0] bcast_S128_S128x1_0 (res_main_v56 (launchContents m c))
      ∧ r.2.mem ((c.tc : Thread nD τ).loc main_arg0) = m ((c.tc : Thread nD τ).loc main_arg0) :=
  (θ_run defs _ _).mono (fun _ h c => ⟨(h c main_v57).trans ((congrFun (after_ops (launchContents m c)) (Proc.devRef .tc main_v57)).trans (val2_main_v57 (launchContents m c))),
      (h c main_v58).trans ((congrFun (after_ops (launchContents m c)) (Proc.devRef .tc main_v58)).trans (val2_main_v58 (launchContents m c))),
      (h c main_arg0).trans ((congrFun (after_ops (launchContents m c)) (Proc.devRef .tc main_arg0)).trans (val2_main_arg0 (launchContents m c)))⟩)
    (run_seq scopedRefs_eq scopedSems_eq defs main (fun _ => ops) main_eq (fun _ => ops_sub) m ρ fun _ => ops_fresh)

end Cert.RefRun

end
-- ==== Proof.RefRow.lean ====
/- The arrays that the reference's run leaves, as the chain of terms of the logits, and so both of its results at a row
   that is fine. -/
module

public import proofs.«01_k».proof.Proof.RefTerms
public import proofs.«01_k».proof.Proof.RefRun

@[expose] public section

noncomputable section

namespace Cert.K

open Cert.ReferenceIdeal Cert.ReferenceIdeal.Gen Cert.RefRun Idealize.ShloMosaic Idealize.ShloMosaic.ValueIdx Idealize.SL.Sem

variable (V : Valuation τ sig (Elt Ideal))

/-- The reference's logits. -/
def logits : FVec Ideal S128x100000 .f32 := V (Proc.devRef .tc main_arg0)

/-- The run's order is the named one. -/
theorem link_order : res_main_v1 (F := Ideal) V = rOrder (logits V) := rfl

/-- The run's gather indices are the named ones. -/
theorem link_index : res_main_call1_v5 (F := Ideal) V = rIndex (logits V) := by
  unfold res_main_call1_v5 rIndex rWrapped
  rw [link_order]
  rfl

/-- The run's sorted rows are the named ones. -/
theorem link_sorted : res_main_v2 (F := Ideal) V = rSorted (logits V) := by
  unfold res_main_v2 rSorted rIn
  rw [link_index]
  rfl

/-- The run's weights are the named ones. -/
theorem link_weights : res_main_v9 (F := Ideal) V = rRel (rSorted (logits V)) := by
  unfold res_main_v9 rRel
  rw [link_sorted]

/-- The run's bits are the named ones. -/
theorem link_bits : res_main_v16 (F := Ideal) V = rBits (logits V) := by
  unfold res_main_v16 rBits rSums rQuot
  rw [link_weights]

/-- The run's row numbers are the named ones. -/
theorem link_rows : res_main_v22 (F := Ideal) V = rRows := rfl

/-- The run's masked rows are the named ones. -/
theorem link_masked : res_main_v39 (F := Ideal) V = rMasked (logits V) := by
  unfold res_main_v39 rMasked rDrop rPairs rFirst rSecond rWrapped rShift
  rw [link_order, link_bits, link_rows]
  rfl

/-- The run's rows after both masks are the named ones. -/
theorem link_rest : res_main_v43 (F := Ideal) V = rRest (logits V) := by
  unfold res_main_v43 rRest rKth
  rw [link_masked]

/-- The run's weights that are left are the named ones. -/
theorem link_left : res_main_v50 (F := Ideal) V = rRel (rRest (logits V)) := by
  unfold res_main_v50 rRel
  rw [link_rest]

/-- The run's probabilities are the named ones. -/
theorem link_probs : res_main_v54 (F := Ideal) V = rQuot (rRel (rRest (logits V))) := by
  unfold res_main_v54 rQuot
  rw [link_left]

/-- The run's columns are the named ones. -/
theorem link_col : res_main_v56 (F := Ideal) V = colOf (m := 128) (n := 100000) (rQuot (rRel (rRest (logits V)))) reducesTo_S128x100000_S128_d1 h_S_ := by
  unfold res_main_v56 colOf
  rw [link_probs]
  rfl

variable {V} {r : Fin 128}

/-- The reference's first result: the largest quotient of a row. -/
theorem ref_conf (h : Fine n63 (xrow (logits V) r)) (u : Fin 1) :
    @Eq EReal (broadcastInDim (α := Ideal .f32) S128x1 ![0] bcast_S128_S128x1_0 (Host.reduce (α := Ideal .f32) FloatOps.maximumf (res_main_v54 (F := Ideal) V) (constant S_ .f32 0xFF800000#32) reducesTo_S128x100000_S128_d1 h_S_) (ValueIdx.ix2 r u))
      ((1 / mass n63 (xrow (logits V) r) : ℝ) : EReal) := by
  rw [link_probs]
  exact rConf_row h u

/-- The reference's second result: the first column of the largest quotient. -/
theorem ref_col (h : Fine n63 (xrow (logits V) r)) (u : Fin 1) :
    broadcastInDim (α := BitVec 32) S128x1 ![0] bcast_S128_S128x1_0 (res_main_v56 (F := Ideal) V) (ValueIdx.ix2 r u) = firstTop (xrow (logits V) r) := by
  rw [link_col]
  exact (col_row (m := 128) _ bcast_S128_S128x1_0 r u).trans (rCol_row h)

end Cert.K

end
-- ==== Proof.Equation.lean ====
/- The two programs leave the same two arrays: at each row, one over the kept mass and the first column of the largest
   logit. -/
module

public import proofs.«01_k».proof.Defs
public import proofs.«01_k».proof.Proof.KernelArray
public import proofs.«01_k».proof.Proof.KernelRow
public import proofs.«01_k».proof.Proof.RefRow
public import proofs.«01_k».proof.Proof.Gen.Pre_separated

@[expose] public section

noncomputable section

namespace Cert.K

open Idealize.ShloMosaic Idealize.ShloMosaic.TcCoe Idealize.ShloMosaic.ValueIdx Idealize.SL.Sem

section Arrays

open Cert.ReferenceIdeal Cert.ReferenceIdeal.Gen

variable {F : FTy → Type} [FloatOps F]

/-- The reference's first array, of the quotients. -/
def confArr (q : FVec F S128x100000 .f32) : FVec F S128x1 .f32 :=
  broadcastInDim S128x1 ![0] bcast_S128_S128x1_0 (Host.reduce FloatOps.maximumf q (constant S_ .f32 0xFF800000#32) reducesTo_S128x100000_S128_d1 h_S_)

/-- The reference's second array, of the columns. -/
def colArr (q : IVec S128 32) : IVec S128x1 32 := broadcastInDim S128x1 ![0] bcast_S128_S128x1_0 q

end Arrays

variable (m : (ℓ : Loc Cert.KernelIdeal.nD Cert.KernelIdeal.τ Cert.KernelIdeal.sig) → Buf (Elt Ideal) ℓ)
  (V : Valuation Cert.ReferenceIdeal.τ Cert.ReferenceIdeal.sig (Elt Ideal)) (c : Dev Cert.KernelIdeal.nD)

/-- The two programs read the same row of logits. -/
theorem krow_eq (hV : logits V = m ((c.tc : Thread Cert.KernelIdeal.nD Cert.KernelIdeal.τ).loc Cert.KernelIdeal.main_arg0)) (R : Fin 128) :
    krow m c R = xrow (logits V) R := by
  rw [hV]
  rfl

/-- The first results are equal. -/
theorem first_eq (hV : logits V = m ((c.tc : Thread Cert.KernelIdeal.nD Cert.KernelIdeal.τ).loc Cert.KernelIdeal.main_arg0))
    (hp : Cert.Pre_separated.fn (F := Ideal) (logits V) = fun _ => 1#1) :
    @Eq (FVec Ideal Cert.ReferenceIdeal.S128x1 .f32) (confArr (Cert.RefRun.res_main_v54 (F := Ideal) V)) ((Cert.KernelIdeal.Gen.dats m 0 c).arrAt 1 Cert.KernelIdeal.cfg0.N) := by
  funext i
  obtain ⟨R, u, rfl⟩ : ∃ (R : Fin 128) (u : Fin 1), i = ValueIdx.ix2 R u := ⟨i 0, i 1, eq_ix2 i⟩
  have h := fine_of_pre (logits V) hp R
  exact (ref_conf h u).trans ((arr1 m c R u).trans (by rw [krow_eq m V c hV, h.conf_eq le_rfl])).symm

/-- The second results are equal. -/
theorem second_eq (hV : logits V = m ((c.tc : Thread Cert.KernelIdeal.nD Cert.KernelIdeal.τ).loc Cert.KernelIdeal.main_arg0))
    (hp : Cert.Pre_separated.fn (F := Ideal) (logits V) = fun _ => 1#1) :
    @Eq (IVec Cert.ReferenceIdeal.S128x1 32) (colArr (Cert.RefRun.res_main_v56 (F := Ideal) V)) ((Cert.KernelIdeal.Gen.dats m 0 c).arrAt 2 Cert.KernelIdeal.cfg0.N) := by
  funext i
  obtain ⟨R, u, rfl⟩ : ∃ (R : Fin 128) (u : Fin 1), i = ValueIdx.ix2 R u := ⟨i 0, i 1, eq_ix2 i⟩
  have h := fine_of_pre (logits V) hp R
  exact (ref_col h u).trans ((arr2 m c R u).trans (by rw [krow_eq m V c hV])).symm

end Cert.K

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.Pre_separated
public import proofs.«01_k».proof.Proof.Equation
public import Idealize.ShloMosaic.Lib.Quiescent
public import Idealize.ShloMosaic.Adequacy
public import Idealize.ShloMosaic.Init

@[expose] public section

noncomputable section

namespace Cert.Proof

open Idealize.ShloMosaic Idealize.SL.Sem

/-- The reference runs, keeps its argument, and ends with every counter at zero. -/
theorem frame_ref : Cert.quiescent_ReferenceIdeal (hReferenceIdeal := Cert.ReferenceIdeal.Gen.facts) := fun m ρ _ =>
  (θ_run Cert.ReferenceIdeal.defs _ _).mono (fun r h => ⟨fun c => (h c).2.2, sem_eq_zero_of_no_sems (by decide) r.2⟩) (Cert.RefRun.run (F := Ideal) m ρ)

/-- The two programs' results are equal: what the reference leaves is what the kernel's output windows leave. -/
theorem results : Cert.algebraic_KernelIdeal_ReferenceIdeal_pre_separated (hKernelIdeal := Cert.KernelIdeal.Gen.facts)
    (hReferenceIdeal := Cert.ReferenceIdeal.Gen.facts) (hPre_separated := Cert.Pre_separated.Gen.facts) := by
  intro m ρ m' ρ' hpre hagree
  refine ⟨_, _, Cert.KernelIdeal.Value.run_blocks (F := Ideal) m ρ, ?_⟩
  refine (θ_run Cert.ReferenceIdeal.defs _ _).mono (fun _ h c => ⟨(h c).1.trans ?_, (h c).2.1.trans ?_, (h c).2.2⟩) (Cert.RefRun.run (F := Ideal) m' ρ')
  · exact Cert.K.first_eq m (StableHlo.launchContents m' c) c (hagree c) ((congrArg _ (hagree c)).trans (hpre c))
  · exact Cert.K.second_eq m (StableHlo.launchContents m' c) c (hagree c) ((congrArg _ (hagree c)).trans (hpre c))

/-- All the claims together. -/
theorem claim : Cert.Claim :=
  ⟨Cert.Kernel.Gen.facts, Cert.KernelIdeal.Gen.facts, Cert.ReferenceIdeal.Gen.facts, Cert.Pre_separated.Gen.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial, trivial, results⟩

end Cert.Proof

end
